-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_in_range_KernelIdeal [hPre_ids_in_range_KernelIdeal : Cert.Pre_ids_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range_ReferenceIdeal [hPre_ids_in_range_ReferenceIdeal : Cert.Pre_ids_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_ids_in_range_KernelIdeal [hKernelIdeal : Cert.KernelIdeal.Facts] [hPre_ids_in_range_KernelIdeal : Cert.Pre_ids_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_ids_in_range_ReferenceIdeal [hReferenceIdeal : Cert.ReferenceIdeal.Facts] [hPre_ids_in_range_ReferenceIdeal : Cert.Pre_ids_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_ids_in_range_KernelIdeal [hKernelIdeal : Cert.KernelIdeal.Facts] [hReferenceIdeal : Cert.ReferenceIdeal.Facts] [hPre_ids_in_range_KernelIdeal : Cert.Pre_ids_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_in_range_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![4096, 512]⟩ ⟨2, ![8192, 512]⟩ (Layout.meshBlock [2, 2, 4] ![[1], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_ids_in_range_KernelIdeal : Cert.Pre_ids_in_range_KernelIdeal.Facts) (hPre_ids_in_range_ReferenceIdeal : Cert.Pre_ids_in_range_ReferenceIdeal.Facts),
    quiescent_Kernel (hKernel := hKernel)
    ∧ quiescent_KernelIdeal (hKernelIdeal := hKernelIdeal)
    ∧ quiescent_KernelIdeal_pre_ids_in_range_KernelIdeal (hKernelIdeal := hKernelIdeal) (hPre_ids_in_range_KernelIdeal := hPre_ids_in_range_KernelIdeal)
    ∧ quiescent_ReferenceIdeal (hReferenceIdeal := hReferenceIdeal)
    ∧ quiescent_ReferenceIdeal_pre_ids_in_range_ReferenceIdeal (hReferenceIdeal := hReferenceIdeal) (hPre_ids_in_range_ReferenceIdeal := hPre_ids_in_range_ReferenceIdeal)
    ∧ preserves_Kernel_KernelIdeal
    ∧ algebraic_KernelIdeal_ReferenceIdeal_pre_ids_in_range_KernelIdeal (hKernelIdeal := hKernelIdeal) (hReferenceIdeal := hReferenceIdeal) (hPre_ids_in_range_KernelIdeal := hPre_ids_in_range_KernelIdeal)
-- ==== Pre_ids_in_range_KernelIdeal.lean ====
abbrev S512 : Shape := ⟨1, ![512]⟩
abbrev S4096x512 : Shape := ⟨2, ![4096, 512]⟩
abbrev S_ : Shape := ⟨0, ![]⟩

class Facts : Prop where
  bcast_S_S512 : S_.BroadcastsInDim S512 (![] : Fin 0 → Fin S512.rank)
  reducesTo_S512_S_d0 : S512.ReducesTo [0] S_
  h_S_ : 0 < S_.numel

variable [Facts]

def fn {F : FTy → Type} [FloatOps F] (main_arg0 : IVec S512 32) (main_arg1 : FVec F S4096x512 .f32) : IVec S_ 1 :=
  let main_c : IVec S_ 32 := constantI S_ 32 0#32
  let main_v0 : IVec S512 32 := broadcastInDim S512 ![] bcast_S_S512 main_c
  let main_v1 : IVec S512 1 := cmpi .sge main_arg0 main_v0
  let main_c_0 : IVec S_ 32 := constantI S_ 32 8192#32
  let main_v2 : IVec S512 32 := broadcastInDim S512 ![] bcast_S_S512 main_c_0
  let main_v3 : IVec S512 1 := cmpi .slt main_arg0 main_v2
  let main_v4 : IVec S512 1 := andi main_v1 main_v3
  let main_c_1 : IVec S_ 1 := constantI S_ 1 1#1
  let main_v5 : IVec S_ 1 := (fun x v => Host.reduce IntOp.andi x v reducesTo_S512_S_d0 h_S_) main_v4 main_c_1
  main_v5
-- ==== Pre_ids_in_range_ReferenceIdeal.lean ====
abbrev S512 : Shape := ⟨1, ![512]⟩
abbrev S8192x512 : Shape := ⟨2, ![8192, 512]⟩
abbrev S_ : Shape := ⟨0, ![]⟩

class Facts : Prop where
  bcast_S_S512 : S_.BroadcastsInDim S512 (![] : Fin 0 → Fin S512.rank)
  reducesTo_S512_S_d0 : S512.ReducesTo [0] S_
  h_S_ : 0 < S_.numel

variable [Facts]

def fn {F : FTy → Type} [FloatOps F] (main_arg0 : IVec S512 32) (main_arg1 : FVec F S8192x512 .f32) : IVec S_ 1 :=
  let main_c : IVec S_ 32 := constantI S_ 32 0#32
  let main_v0 : IVec S512 32 := broadcastInDim S512 ![] bcast_S_S512 main_c
  let main_v1 : IVec S512 1 := cmpi .sge main_arg0 main_v0
  let main_c_0 : IVec S_ 32 := constantI S_ 32 8192#32
  let main_v2 : IVec S512 32 := broadcastInDim S512 ![] bcast_S_S512 main_c_0
  let main_v3 : IVec S512 1 := cmpi .slt main_arg0 main_v2
  let main_v4 : IVec S512 1 := andi main_v1 main_v3
  let main_c_1 : IVec S_ 1 := constantI S_ 1 1#1
  let main_v5 : IVec S_ 1 := (fun x v => Host.reduce IntOp.andi x v reducesTo_S512_S_d0 h_S_) main_v4 main_c_1
  main_v5
-- ==== Kernel.lean ====
abbrev S512 : Shape := ⟨1, ![512]⟩
abbrev S4096x512 : Shape := ⟨2, ![4096, 512]⟩
abbrev S_ : Shape := ⟨0, ![]⟩
abbrev S256 : Shape := ⟨1, ![256]⟩
abbrev S256x1 : Shape := ⟨2, ![256, 1]⟩
abbrev S256x512 : Shape := ⟨2, ![256, 512]⟩
abbrev S512x512 : Shape := ⟨2, ![512, 512]⟩
abbrev S8 : Shape := ⟨1, ![8]⟩
abbrev S32x512 : Shape := ⟨2, ![32, 512]⟩
abbrev S1 : Shape := ⟨1, ![1]⟩
abbrev S32x1 : Shape := ⟨2, ![32, 1]⟩

abbrev nBuf : Space → Nat
  | .hbm => 30
  | .vmem => 9
  | .smem => 0
  | _ => 0

abbrev bufTy : (tb : Table) → Fin (tcTables nBuf tb) → BufTy
  | .hbm, ⟨0, _⟩ => ⟨S512, .i32⟩
  | .hbm, ⟨1, _⟩ => ⟨S4096x512, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S256, .i32⟩
  | .hbm, ⟨16, _⟩ => ⟨S_, .i32⟩
  | .hbm, ⟨17, _⟩ => ⟨S256, .i32⟩
  | .hbm, ⟨18, _⟩ => ⟨S256, .i32⟩
  | .hbm, ⟨19, _⟩ => ⟨S_, .i32⟩
  | .hbm, ⟨20, _⟩ => ⟨S256, .i32⟩
  | .hbm, ⟨21, _⟩ => ⟨S256, .i1⟩
  | .hbm, ⟨22, _⟩ => ⟨S_, .i32⟩
  | .hbm, ⟨23, _⟩ => ⟨S256, .i32⟩
  | .hbm, ⟨24, _⟩ => ⟨S256, .i32⟩
  | .hbm, ⟨25, _⟩ => ⟨S256, .i32⟩
  | .hbm, ⟨26, _⟩ => ⟨S256x1, .i32⟩
  | .hbm, ⟨27, _⟩ => ⟨S256x512, .f32⟩
  | .hbm, ⟨28, _⟩ => ⟨S256x1, .i32⟩
  | .hbm, ⟨29, _⟩ => ⟨S512x512, .f32⟩
  | .local _ .vmem, ⟨0, _⟩ => ⟨S256x1, .i32⟩
  | .local _ .vmem, ⟨1, _⟩ => ⟨S512x512, .f32⟩
  | .local _ .vmem, ⟨2, _⟩ => ⟨S256x512, .f32⟩
  | .local _ .vmem, ⟨3, _⟩ => ⟨S256x512, .bf16⟩
  | .local _ .vmem, ⟨4, _⟩ => ⟨S256x512, .bf16⟩
  | .local _ .vmem, ⟨5, _⟩ => ⟨S256x512, .f32⟩
  | .local _ .vmem, ⟨6, _⟩ => ⟨S256x1, .f32⟩
  | .local _ .vmem, ⟨7, _⟩ => ⟨S256x512, .bf16⟩
  | .local _ .vmem, ⟨8, _⟩ => ⟨S256x512, .bf16⟩
  | _, _ => ⟨S512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_v5 : Ref sig .tc := ⟨.hbm, 9, rfl⟩
abbrev main_c_2 : Ref sig .tc := ⟨.hbm, 10, rfl⟩
abbrev main_v6 : Ref sig .tc := ⟨.hbm, 11, rfl⟩
abbrev main_c_3 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_4 : Ref sig .tc := ⟨.hbm, 16, rfl⟩
abbrev main_v10 : Ref sig .tc := ⟨.hbm, 17, rfl⟩
abbrev main_v11 : Ref sig .tc := ⟨.hbm, 18, rfl⟩
abbrev main_c_5 : Ref sig .tc := ⟨.hbm, 19, rfl⟩
abbrev main_v12 : Ref sig .tc := ⟨.hbm, 20, rfl⟩
abbrev main_v13 : Ref sig .tc := ⟨.hbm, 21, rfl⟩
abbrev main_c_6 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_5 : BitVec 32 := 8#32
  let v12 : BitVec 32 := Scalar.muli v2 c8_i32_5
  let v13 : BitVec 32 := Scalar.addi c0_i32 v12
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_6 : BitVec 32 := 4#32
  let v14 : BitVec 32 := Scalar.muli v9 c4_i32_6
  let v15 : BitVec 32 := Scalar.addi v13 v14
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v16 : BitVec 32 := Scalar.muli v8 c1_i32_7
  let v17 : BitVec 32 := Scalar.addi v15 v16
  v17.toNat
def k0_dev2 (d0 : Dev nD) : Nat :=
  let c0_i32_10 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_9 : BitVec 32 := 8#32
  let v18 : BitVec 32 := Scalar.muli v10 c8_i32_9
  let v19 : BitVec 32 := Scalar.addi c0_i32_10 v18
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_11 : BitVec 32 := 4#32
  let v20 : BitVec 32 := Scalar.muli v5 c4_i32_11
  let v21 : BitVec 32 := Scalar.addi v19 v20
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_12 : BitVec 32 := 1#32
  let v22 : BitVec 32 := Scalar.muli v8 c1_i32_12
  let v23 : BitVec 32 := Scalar.addi v21 v22
  v23.toNat
def k0_dev3 (d0 : Dev nD) : Nat :=
  let c0_i32_22 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_21 : BitVec 32 := 8#32
  let v32 : BitVec 32 := Scalar.muli v2 c8_i32_21
  let v33 : BitVec 32 := Scalar.addi c0_i32_22 v32
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_23 : BitVec 32 := 4#32
  let v34 : BitVec 32 := Scalar.muli v9 c4_i32_23
  let v35 : BitVec 32 := Scalar.addi v33 v34
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v36 : BitVec 32 := Scalar.muli v8 c1_i32_24
  let v37 : BitVec 32 := Scalar.addi v35 v36
  v37.toNat
def k0_dev4 (d0 : Dev nD) : Nat :=
  let c0_i32_35 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_34 : BitVec 32 := 8#32
  let v49 : BitVec 32 := Scalar.muli v2 c8_i32_34
  let v50 : BitVec 32 := Scalar.addi c0_i32_35 v49
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_36 : BitVec 32 := 4#32
  let v51 : BitVec 32 := Scalar.muli v9 c4_i32_36
  let v52 : BitVec 32 := Scalar.addi v50 v51
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_37 : BitVec 32 := 1#32
  let v53 : BitVec 32 := Scalar.muli v8 c1_i32_37
  let v54 : BitVec 32 := Scalar.addi v52 v53
  v54.toNat
def k0_dev5 (d0 : Dev nD) : Nat :=
  let c0_i32_47 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_46 : BitVec 32 := 8#32
  let v66 : BitVec 32 := Scalar.muli v2 c8_i32_46
  let v67 : BitVec 32 := Scalar.addi c0_i32_47 v66
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_48 : BitVec 32 := 4#32
  let v68 : BitVec 32 := Scalar.muli v9 c4_i32_48
  let v69 : BitVec 32 := Scalar.addi v67 v68
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_49 : BitVec 32 := 1#32
  let v70 : BitVec 32 := Scalar.muli v8 c1_i32_49
  let v71 : BitVec 32 := Scalar.addi v69 v70
  v71.toNat
def k0_dev6 (d0 : Dev nD) : Nat :=
  let c0_i32_58 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_57 : BitVec 32 := 8#32
  let v83 : BitVec 32 := Scalar.muli v2 c8_i32_57
  let v84 : BitVec 32 := Scalar.addi c0_i32_58 v83
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_59 : BitVec 32 := 4#32
  let v85 : BitVec 32 := Scalar.muli v9 c4_i32_59
  let v86 : BitVec 32 := Scalar.addi v84 v85
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_60 : BitVec 32 := 1#32
  let v87 : BitVec 32 := Scalar.muli v8 c1_i32_60
  let v88 : BitVec 32 := Scalar.addi v86 v87
  v88.toNat
def k0_dev7 (d0 : Dev nD) : Nat :=
  let c0_i32_70 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_69 : BitVec 32 := 8#32
  let v100 : BitVec 32 := Scalar.muli v2 c8_i32_69
  let v101 : BitVec 32 := Scalar.addi c0_i32_70 v100
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_71 : BitVec 32 := 4#32
  let v102 : BitVec 32 := Scalar.muli v9 c4_i32_71
  let v103 : BitVec 32 := Scalar.addi v101 v102
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_72 : BitVec 32 := 1#32
  let v104 : BitVec 32 := Scalar.muli v8 c1_i32_72
  let v105 : BitVec 32 := Scalar.addi v103 v104
  v105.toNat
def k0_dev8 (d0 : Dev nD) : Nat :=
  let c0_i32_81 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_80 : BitVec 32 := 8#32
  let v117 : BitVec 32 := Scalar.muli v2 c8_i32_80
  let v118 : BitVec 32 := Scalar.addi c0_i32_81 v117
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_82 : BitVec 32 := 4#32
  let v119 : BitVec 32 := Scalar.muli v9 c4_i32_82
  let v120 : BitVec 32 := Scalar.addi v118 v119
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_83 : BitVec 32 := 1#32
  let v121 : BitVec 32 := Scalar.muli v8 c1_i32_83
  let v122 : BitVec 32 := Scalar.addi v120 v121
  v122.toNat
def k0_dev9 (d0 : Dev nD) : Nat :=
  let c0_i32_92 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_91 : BitVec 32 := 8#32
  let v134 : BitVec 32 := Scalar.muli v2 c8_i32_91
  let v135 : BitVec 32 := Scalar.addi c0_i32_92 v134
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_93 : BitVec 32 := 4#32
  let v136 : BitVec 32 := Scalar.muli v9 c4_i32_93
  let v137 : BitVec 32 := Scalar.addi v135 v136
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_94 : BitVec 32 := 1#32
  let v138 : BitVec 32 := Scalar.muli v8 c1_i32_94
  let v139 : BitVec 32 := Scalar.addi v137 v138
  v139.toNat
def k0_dev10 (d0 : Dev nD) : Nat :=
  let c0_i32_103 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_102 : BitVec 32 := 8#32
  let v151 : BitVec 32 := Scalar.muli v2 c8_i32_102
  let v152 : BitVec 32 := Scalar.addi c0_i32_103 v151
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_104 : BitVec 32 := 4#32
  let v153 : BitVec 32 := Scalar.muli v9 c4_i32_104
  let v154 : BitVec 32 := Scalar.addi v152 v153
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_105 : BitVec 32 := 1#32
  let v155 : BitVec 32 := Scalar.muli v8 c1_i32_105
  let v156 : BitVec 32 := Scalar.addi v154 v155
  v156.toNat
def k0_off1 (d0 : Dev nD) (c0_i32_117 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32 : BitVec 32 := 256#32
  let v24 : BitVec 32 := Scalar.muli v2 c256_i32
  let v182 : BitVec 32 := Scalar.addi v24 c0_i32_117
  let v200 : Index := Scalar.indexCast v182
  let c0_134 : Index := 0#32
  ![v200.toNat, 0]
def k0_dev11 (d0 : Dev nD) : Nat :=
  let c0_i32_140 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_139 : BitVec 32 := 8#32
  let v206 : BitVec 32 := Scalar.muli v10 c8_i32_139
  let v207 : BitVec 32 := Scalar.addi c0_i32_140 v206
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_141 : BitVec 32 := 4#32
  let v208 : BitVec 32 := Scalar.muli v5 c4_i32_141
  let v209 : BitVec 32 := Scalar.addi v207 v208
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_142 : BitVec 32 := 1#32
  let v210 : BitVec 32 := Scalar.muli v8 c1_i32_142
  let v211 : BitVec 32 := Scalar.addi v209 v210
  v211.toNat
def k0_dev12 (d0 : Dev nD) : Nat :=
  let c0_i32_170 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_169 : BitVec 32 := 8#32
  let v242 : BitVec 32 := Scalar.muli v10 c8_i32_169
  let v243 : BitVec 32 := Scalar.addi c0_i32_170 v242
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_171 : BitVec 32 := 4#32
  let v244 : BitVec 32 := Scalar.muli v5 c4_i32_171
  let v245 : BitVec 32 := Scalar.addi v243 v244
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_172 : BitVec 32 := 1#32
  let v246 : BitVec 32 := Scalar.muli v8 c1_i32_172
  let v247 : BitVec 32 := Scalar.addi v245 v246
  v247.toNat
def k0_dev13 (d0 : Dev nD) : Nat :=
  let c0_i32_200 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_199 : BitVec 32 := 8#32
  let v278 : BitVec 32 := Scalar.muli v10 c8_i32_199
  let v279 : BitVec 32 := Scalar.addi c0_i32_200 v278
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_201 : BitVec 32 := 4#32
  let v280 : BitVec 32 := Scalar.muli v5 c4_i32_201
  let v281 : BitVec 32 := Scalar.addi v279 v280
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_202 : BitVec 32 := 1#32
  let v282 : BitVec 32 := Scalar.muli v8 c1_i32_202
  let v283 : BitVec 32 := Scalar.addi v281 v282
  v283.toNat
def k0_dev14 (d0 : Dev nD) : Nat :=
  let c0_i32_230 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_229 : BitVec 32 := 8#32
  let v314 : BitVec 32 := Scalar.muli v10 c8_i32_229
  let v315 : BitVec 32 := Scalar.addi c0_i32_230 v314
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_231 : BitVec 32 := 4#32
  let v316 : BitVec 32 := Scalar.muli v5 c4_i32_231
  let v317 : BitVec 32 := Scalar.addi v315 v316
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_232 : BitVec 32 := 1#32
  let v318 : BitVec 32 := Scalar.muli v8 c1_i32_232
  let v319 : BitVec 32 := Scalar.addi v317 v318
  v319.toNat
def k0_dev15 (d0 : Dev nD) : Nat :=
  let c0_i32_260 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_259 : BitVec 32 := 8#32
  let v350 : BitVec 32 := Scalar.muli v10 c8_i32_259
  let v351 : BitVec 32 := Scalar.addi c0_i32_260 v350
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_261 : BitVec 32 := 4#32
  let v352 : BitVec 32 := Scalar.muli v5 c4_i32_261
  let v353 : BitVec 32 := Scalar.addi v351 v352
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_262 : BitVec 32 := 1#32
  let v354 : BitVec 32 := Scalar.muli v8 c1_i32_262
  let v355 : BitVec 32 := Scalar.addi v353 v354
  v355.toNat
def k0_dev16 (d0 : Dev nD) : Nat :=
  let c0_i32_290 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_289 : BitVec 32 := 8#32
  let v386 : BitVec 32 := Scalar.muli v10 c8_i32_289
  let v387 : BitVec 32 := Scalar.addi c0_i32_290 v386
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_291 : BitVec 32 := 4#32
  let v388 : BitVec 32 := Scalar.muli v5 c4_i32_291
  let v389 : BitVec 32 := Scalar.addi v387 v388
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_292 : BitVec 32 := 1#32
  let v390 : BitVec 32 := Scalar.muli v8 c1_i32_292
  let v391 : BitVec 32 := Scalar.addi v389 v390
  v391.toNat
def k0_dev17 (d0 : Dev nD) : Nat :=
  let c0_i32_320 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_319 : BitVec 32 := 8#32
  let v422 : BitVec 32 := Scalar.muli v10 c8_i32_319
  let v423 : BitVec 32 := Scalar.addi c0_i32_320 v422
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_321 : BitVec 32 := 4#32
  let v424 : BitVec 32 := Scalar.muli v5 c4_i32_321
  let v425 : BitVec 32 := Scalar.addi v423 v424
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_322 : BitVec 32 := 1#32
  let v426 : BitVec 32 := Scalar.muli v8 c1_i32_322
  let v427 : BitVec 32 := Scalar.addi v425 v426
  v427.toNat
def k0_dev18 (d0 : Dev nD) : Nat :=
  let c0_i32_350 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_349 : BitVec 32 := 8#32
  let v458 : BitVec 32 := Scalar.muli v10 c8_i32_349
  let v459 : BitVec 32 := Scalar.addi c0_i32_350 v458
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_351 : BitVec 32 := 4#32
  let v460 : BitVec 32 := Scalar.muli v5 c4_i32_351
  let v461 : BitVec 32 := Scalar.addi v459 v460
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_352 : BitVec 32 := 1#32
  let v462 : BitVec 32 := Scalar.muli v8 c1_i32_352
  let v463 : BitVec 32 := Scalar.addi v461 v462
  v463.toNat
def k0_off2 (d0 : Dev nD) (c0_i32_357 : BitVec 32) : Fin 2 → Nat :=
  let c1_i32_14 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v25 : BitVec 32 := Scalar.subi c1_i32_14 v2
  let c256_i32_15 : BitVec 32 := 256#32
  let v26 : BitVec 32 := Scalar.muli v25 c256_i32_15
  let v470 : BitVec 32 := Scalar.addi v26 c0_i32_357
  let v491 : Index := Scalar.indexCast v470
  let c0_384 : Index := 0#32
  ![v491.toNat, 0]
abbrev stage0_0 : Fin 1 → Memref sig .tc .vmem S256x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S512 : Shape := ⟨1, ![512]⟩
abbrev S8192x512 : Shape := ⟨2, ![8192, 512]⟩
abbrev S_ : Shape := ⟨0, ![]⟩
abbrev S512x1 : Shape := ⟨2, ![512, 1]⟩
abbrev S512x512 : Shape := ⟨2, ![512, 512]⟩

abbrev nBuf : Space → Nat
  | .hbm => 11
  | .vmem => 0
  | .smem => 0
  | _ => 0

abbrev bufTy : (tb : Table) → Fin (tcTables nBuf tb) → BufTy
  | .hbm, ⟨0, _⟩ => ⟨S512, .i32⟩
  | .hbm, ⟨1, _⟩ => ⟨S8192x512, .f32⟩
  | .hbm, ⟨2, _⟩ => ⟨S_, .i32⟩
  | .hbm, ⟨3, _⟩ => ⟨S512, .i32⟩
  | .hbm, ⟨4, _⟩ => ⟨S512, .i1⟩
  | .hbm, ⟨5, _⟩ => ⟨S_, .i32⟩
  | .hbm, ⟨6, _⟩ => ⟨S512, .i32⟩
  | .hbm, ⟨7, _⟩ => ⟨S512, .i32⟩
  | .hbm, ⟨8, _⟩ => ⟨S512, .i32⟩
  | .hbm, ⟨9, _⟩ => ⟨S512x1, .i32⟩
  | .hbm, ⟨10, _⟩ => ⟨S512x512, .f32⟩
  | _, _ => ⟨S512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.Stages.lean ====
/- The kernel's body as a composition of stages, each over a symbolic piece `k : Fin 8` of 32 rows:
   the head (load the gathered rows, meet both partners), eight stages that round a piece to bf16 and
   send it along y, the masking of the own rows, eight stages that join a piece with the y partner's
   and send the sum along x, and eight stages that take in the x partner's piece. The printed body is
   this composition by definition (`body_eq`). -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import Idealize.ShloMosaic.Lib.Tactic

@[expose] public section

noncomputable section

namespace Cert.KernelIdeal.Pieces

open Idealize.ShloMosaic Idealize.ShloMosaic.TcCoe Idealize.SL Idealize.SL.Sem
open Cert.KernelIdeal.Gen

variable {F : FTy → Type} [FloatOps F]

/-! ## The buffers and semaphores -/

abbrev rowsM : Memref sig .tc .hbm S256x512 .f32 := Memref.whole main_v18
abbrev idsM : Memref sig .tc .vmem S256x1 .i32 := win0_0.stage 0
abbrev outM : Memref sig .tc .vmem S512x512 .f32 := win0_1.stage 0
abbrev pfM : Memref sig .tc .vmem S256x512 .f32 := Memref.whole cc0_scratch0
abbrev pbM : Memref sig .tc .vmem S256x512 .bf16 := Memref.whole cc0_scratch1
abbrev yrM : Memref sig .tc .vmem S256x512 .bf16 := Memref.whole cc0_scratch2
abbrev pmM : Memref sig .tc .vmem S256x512 .f32 := Memref.whole cc0_scratch3
abbrev qM : Memref sig .tc .vmem S256x1 .f32 := Memref.whole cc0_scratch4
abbrev xsM : Memref sig .tc .vmem S256x512 .bf16 := Memref.whole cc0_scratch5
abbrev xrM : Memref sig .tc .vmem S256x512 .bf16 := Memref.whole cc0_scratch6

/-- The barrier's semaphore. -/
abbrev barS : Sem sig := (SemArray.scalar (sig.barrier 0 rfl) : Sems sig S_).sem
/-- The semaphore of the copy of the gathered rows into VMEM. -/
abbrev ldS : DmaSem sig := (cc0_scratch7 : DmaSems sig S_).sem

theorem inbS (k : Fin 8) : ∀ a, (![k.val] : Fin 1 → Nat) a + S1.size a ≤ S8.size a := by
  revert k; decide

/-- The semaphores of piece `k`: the y transfer's two and the x transfer's two. -/
abbrev at8 (a : DmaSems sig S8) (k : Fin 8) : DmaSem sig :=
  ((a.slice (Rect.unit (s := S8) ![k.val] S1.size (inbS k))).squeeze S_ squeezes_S1_S_ : DmaSems sig S_).sem
abbrev ysS (k : Fin 8) : DmaSem sig := at8 cc0_scratch8 k
abbrev yrS (k : Fin 8) : DmaSem sig := at8 cc0_scratch9 k
abbrev xsS (k : Fin 8) : DmaSem sig := at8 cc0_scratch10 k
abbrev xrS (k : Fin 8) : DmaSem sig := at8 cc0_scratch11 k

/-! ## The pieces -/

theorem inbP (k : Fin 8) : ∀ a, (![32 * k.val, 0] : Fin 2 → Nat) a + S32x512.size a ≤ S256x512.size a := by
  revert k; decide

/-- Rows `32 k .. 32 k + 31` of a buffer of 256 rows. -/
abbrev R (k : Fin 8) : Rect S256x512 := Rect.unit (s := S256x512) ![32 * k.val, 0] S32x512.size (inbP k)

theorem packedP (k : Fin 8) : (R k).PackedRows (EltTy.packing .bf16) := by revert k; decide
theorem wordsP (k : Fin 8) : (R k).WholeWords (EltTy.packing .bf16) := (packedP k).wholeWords

theorem inbQ (k : Fin 8) : ∀ a, (![32 * k.val, 0] : Fin 2 → Nat) a + S32x1.size a ≤ S256x1.size a := by
  revert k; decide

/-- Rows `32 k .. 32 k + 31` of the mask's column. -/
abbrev Q1 (k : Fin 8) : Rect S256x1 := Rect.unit (s := S256x1) ![32 * k.val, 0] S32x1.size (inbQ k)

/-- Where device `d`'s own piece `k`, and its x partner's, lie in the result. -/
abbrev own (d : Dev nD) (k : Fin 8) : Rect S512x512 :=
  Rect.unit (s := S512x512) (k0_off1 d (BitVec.ofNat 32 (32 * k.val))) S32x512.size (k0_off1_inb d k)
abbrev oth (d : Dev nD) (k : Fin 8) : Rect S512x512 :=
  Rect.unit (s := S512x512) (k0_off2 d (BitVec.ofNat 32 (32 * k.val))) S32x512.size (k0_off2_inb d k)

/-- The partner of a device along y, and along x. -/
abbrev yp (d : Dev nD) : Dev nD := ⟨k0_dev1 d, k0_dev1_lt d⟩
abbrev xp (d : Dev nD) : Dev nD := ⟨k0_dev2 d, k0_dev2_lt d⟩

/-- A piece of a bf16 buffer. -/
abbrev pc (M : Memref sig .tc .vmem S256x512 .bf16) (k : Fin 8) : Memref sig .tc .vmem S32x512 .bf16 :=
  M.slice (R k) (fun _ => rfl)

/-- The device's y coordinate as the kernel computes it. -/
abbrev yw (d : Dev nD) : BitVec 32 := Scalar.remsi (Scalar.divsi (Dev.word d) 4#32) 2#32

/-! ## The stages -/

abbrev P0 (F : FTy → Type) := Prog (TpuEff nD τ sig (Elt F) Λ₀ .tc)

abbrev head (d : Dev nD) : P0 F PUnit := do
  Prog.lift (.enqueueDma rowsM (.here pfM) (.dma ldS) (Memref.isWhole_whole _).wordExact (Memref.isWhole_whole _).wordExact ⟨Or.inl rfl, trivial⟩)
  Prog.lift (.semSignal (yp d, .tc) barS ((1 : ℕ) : Int))
  Prog.lift (.semSignal (xp d, .tc) barS ((1 : ℕ) : Int))
  Prog.lift (.semWait barS ((2 : ℕ) : Int))
  Prog.lift (.waitDma2 ldS rowsM pfM (Memref.isWhole_whole _).wordExact (Memref.isWhole_whole _).wordExact)

abbrev stA (d : Dev nD) (k : Fin 8) : P0 F PUnit := do
  let v : Vec F S32x512 .f32 ← Prog.lift (.load pfM (R k).toLoadRect (View.loadsAt_vmem h_S32x512))
  let _w : Vec F S32x512 .bf16 ← Prog.lift (.load pbM (R k).toLoadRect (View.loadsAt_vmem h_S32x512))
  Prog.lift (.store pbM (R k) (Gen.k0_pay4 v) Finset.univ (View.stores_vmem h_S32x512 ((Memref.isWhole_whole _).storeExact_slice rfl _ (packedP k)) (fun _ => rfl)) (.inl rfl))
  Prog.lift (.enqueueDma (pc pbM k) (.remote (Dev.tc (yp d)) (pc yrM k) (.dma (ysS k))) (.dma (yrS k)) ((Memref.isWhole_whole _).wordExact_slice rfl _ (wordsP k)) ((Memref.isWhole_whole _).wordExact_slice rfl _ (wordsP k)) ⟨⟨rfl, Or.inl rfl⟩, trivial⟩)

abbrev mid (d : Dev nD) : P0 F PUnit := do
  let v : Vec F S256x1 .i32 ← Prog.lift (.load idsM (Rect.unit (s := S256x1) ![0, 0] S256x1.size inb_S256x1_S256x1_0_0).toLoadRect (View.loadsAt_vmem h_S256x1))
  let f : Vec F S256x512 .f32 ← Prog.lift (.load pfM (Rect.unit (s := S256x512) ![0, 0] S256x512.size inb_S256x512_S256x512_0_0).toLoadRect (View.loadsAt_vmem h_S256x512))
  let _w : Vec F S256x512 .f32 ← Prog.lift (.load pmM (Rect.unit (s := S256x512) ![0, 0] S256x512.size inb_S256x512_S256x512_0_0).toLoadRect (View.loadsAt_vmem h_S256x512))
  Prog.lift (.store pmM (Rect.unit (s := S256x512) ![0, 0] S256x512.size inb_S256x512_S256x512_0_0) (Gen.k0_pay12 (yw d) v f) Finset.univ (View.stores_vmem_bits_univ h_S256x512 rfl) (.inl rfl))
  let _w : Vec F S256x1 .f32 ← Prog.lift (.load qM (Rect.unit (s := S256x1) ![0, 0] S256x1.size inb_S256x1_S256x1_0_0).toLoadRect (View.loadsAt_vmem h_S256x1))
  Prog.lift (.store qM (Rect.unit (s := S256x1) ![0, 0] S256x1.size inb_S256x1_S256x1_0_0) (Gen.k0_pay13 (yw d) v) Finset.univ (View.stores_vmem_bits_univ h_S256x1 rfl) (.inl rfl))

abbrev stB (d : Dev nD) (k : Fin 8) : P0 F PUnit := do
  Prog.lift (.waitDma2 (yrS k) (pc pbM k) (pc yrM k) ((Memref.isWhole_whole _).wordExact_slice rfl _ (wordsP k)) ((Memref.isWhole_whole _).wordExact_slice rfl _ (wordsP k)))
  let a : Vec F S32x512 .f32 ← Prog.lift (.load pmM (R k).toLoadRect (View.loadsAt_vmem h_S32x512))
  let b : Vec F S32x512 .bf16 ← Prog.lift (.load yrM (R k).toLoadRect (View.loadsAt_vmem h_S32x512))
  let q : Vec F S32x1 .f32 ← Prog.lift (.load qM (Q1 k).toLoadRect (View.loadsAt_vmem h_S32x1))
  let _w : Vec F S32x512 .f32 ← Prog.lift (.load outM (own d k).toLoadRect (View.loadsAt_vmem h_S32x512))
  Prog.lift (.store outM (own d k) (Gen.k0_pay14 a b q) Finset.univ (View.stores_vmem_bits_univ h_S32x512 rfl) (.inl rfl))
  let _w : Vec F S32x512 .bf16 ← Prog.lift (.load xsM (R k).toLoadRect (View.loadsAt_vmem h_S32x512))
  Prog.lift (.store xsM (R k) (Gen.k0_pay15 a b q) Finset.univ (View.stores_vmem h_S32x512 ((Memref.isWhole_whole _).storeExact_slice rfl _ (packedP k)) (fun _ => rfl)) (.inl rfl))
  Prog.lift (.enqueueDma (pc xsM k) (.remote (Dev.tc (xp d)) (pc xrM k) (.dma (xsS k))) (.dma (xrS k)) ((Memref.isWhole_whole _).wordExact_slice rfl _ (wordsP k)) ((Memref.isWhole_whole _).wordExact_slice rfl _ (wordsP k)) ⟨⟨rfl, Or.inl rfl⟩, trivial⟩)

abbrev stC (d : Dev nD) (k : Fin 8) : P0 F PUnit := do
  Prog.lift (.waitDma2 (ysS k) (pc yrM k) (pc pbM k) ((Memref.isWhole_whole _).wordExact_slice rfl _ (wordsP k)) ((Memref.isWhole_whole _).wordExact_slice rfl _ (wordsP k)))
  Prog.lift (.waitDma2 (xsS k) (pc xrM k) (pc xsM k) ((Memref.isWhole_whole _).wordExact_slice rfl _ (wordsP k)) ((Memref.isWhole_whole _).wordExact_slice rfl _ (wordsP k)))
  Prog.lift (.waitDma2 (xrS k) (pc xsM k) (pc xrM k) ((Memref.isWhole_whole _).wordExact_slice rfl _ (wordsP k)) ((Memref.isWhole_whole _).wordExact_slice rfl _ (wordsP k)))
  let b : Vec F S32x512 .bf16 ← Prog.lift (.load xrM (R k).toLoadRect (View.loadsAt_vmem h_S32x512))
  let _w : Vec F S32x512 .f32 ← Prog.lift (.load outM (oth d k).toLoadRect (View.loadsAt_vmem h_S32x512))
  Prog.lift (.store outM (oth d k) (Gen.k0_pay1 b) Finset.univ (View.stores_vmem_bits_univ h_S32x512 rfl) (.inl rfl))

/-- Run the stages of the pieces listed, in order. -/
def runs (f : Fin 8 → P0 F PUnit) : List (Fin 8) → P0 F PUnit
  | [] => .ret ⟨⟩
  | k :: ks => f k >>= fun _ => runs f ks

abbrev all8 : List (Fin 8) := [0, 1, 2, 3, 4, 5, 6, 7]

/-- The body in stages. -/
def staged : P0 F PUnit := do
  let d : Dev nD ← Prog.lift .deviceId
  head d
  runs (stA d) all8
  mid d
  runs (stB d) all8
  runs (stC d) all8

set_option maxRecDepth 65536 in
theorem body_eq (t : Fin cfg0.N) : Gen.bodyAt0 (F := F) t = staged := by
  obtain rfl := Gen.fin_N0 t
  rw [Gen.bodyAt0, Gen.cc0_body_eq_skeleton]
  rfl

end Cert.KernelIdeal.Pieces

end
-- ==== Proof.Contents.lean ====
/- What the kernel's buffers hold along the way, as functions of every device's gathered rows and its
   chunk of the ids: the rows rounded to bf16, the masked rows, the sum with the y partner's rows, and
   the whole result. With it, how the pieces of 32 rows lie in those buffers: the 8 pieces of a buffer
   are disjoint and cover it, and each stage's payload is the buffer's contents read at the piece. -/
module

public import proofs.«01_k».proof.Proof.Stages
public import Idealize.ShloMosaic.Lib.Pointwise.Reshape

@[expose] public section

noncomputable section

namespace Cert.KernelIdeal.Pieces

open Idealize.ShloMosaic Idealize.ShloMosaic.TcCoe Idealize.SL Idealize.SL.Sem
open Cert.KernelIdeal.Gen

/-! ## The partners -/

theorem yp_yp (d : Dev nD) : yp (yp d) = d := by revert d; decide +kernel
theorem xp_xp (d : Dev nD) : xp (xp d) = d := by revert d; decide +kernel
def yRing : Dev nD ≃ Dev nD := ⟨yp, yp, yp_yp, yp_yp⟩
def xRing : Dev nD ≃ Dev nD := ⟨xp, xp, xp_xp, xp_xp⟩
theorem half_lt (d : Dev nD) : d.val / 8 < 2 := by have : d.val < 16 := d.isLt; omega
theorem half_xp (d : Dev nD) : (xp d).val / 8 = 1 - d.val / 8 := by revert d; decide +kernel

variable {F : FTy → Type} [FloatOps F]

section Vals

variable (rows : Dev nD → Vec F S256x512 .f32) (ids : Dev nD → Vec F S256x1 .i32)

/-- The gathered rows of a device rounded to bf16: what it sends along y. -/
def pbv (d : Dev nD) : Vec F S256x512 .bf16 := truncf .bf16 (rows d) bitsLt_bf16_f32
/-- Its rows with those it does not own zeroed, -/
def pmv (d : Dev nD) : Vec F S256x512 .f32 := Gen.k0_pay12 (yw d) (ids d) (rows d)
/-- and one minus the mask. -/
def qv (d : Dev nD) : Vec F S256x1 .f32 := Gen.k0_pay13 (yw d) (ids d)
/-- The rows of its half of the ids: the own where owned, else the y partner's. -/
def sv (d : Dev nD) : Vec F S256x512 .f32 :=
  addf (pmv rows ids d) (mulf (extf .f32 (pbv rows (yp d)) bitsLt_bf16_f32)
    (broadcastTo S256x512 (qv ids d) broadcasts_S256x1_S256x512))
/-- Those rounded to bf16: what it sends along x. -/
def xsv (d : Dev nD) : Vec F S256x512 .bf16 := truncf .bf16 (sv rows ids d) bitsLt_bf16_f32

/-- The place within its half of a place of the result. -/
def lo (i : S512x512.Idx) : S256x512.Idx := fun a =>
  ⟨if a.val = 0 then (i 0).val % 256 else (i 1).val, by
    have h := (i 1).isLt
    revert a; rintro ⟨_ | _ | n, ha⟩
    · exact Nat.mod_lt _ (by decide)
    · exact h
    · exact absurd ha (by show ¬ n + 2 < 2; omega)⟩

/-- The result of a device: its own half of the rows, and the x partner's. -/
def outv (d : Dev nD) : Vec F S512x512 .f32 := fun i =>
  if (i 0).val / 256 = d.val / 8 then sv rows ids d (lo i)
  else extf .f32 (xsv rows ids (xp d)) bitsLt_bf16_f32 (lo i)

end Vals

/-! ## How the pieces lie -/

theorem emb_R_val (k : Fin 8) (j : S32x512.Idx) (a : Fin 2) :
    ((R k).emb j a).val = (![32 * k.val, 0] : Fin 2 → Nat) a + (j a).val := by
  show (![32 * k.val, 0] : Fin 2 → Nat) a + 1 * (j a).val = _; rw [Nat.one_mul]
theorem emb_Q_val (k : Fin 8) (j : S32x1.Idx) (a : Fin 2) :
    ((Q1 k).emb j a).val = (![32 * k.val, 0] : Fin 2 → Nat) a + (j a).val := by
  show (![32 * k.val, 0] : Fin 2 → Nat) a + 1 * (j a).val = _; rw [Nat.one_mul]
theorem emb_own_val (d : Dev nD) (k : Fin 8) (j : S32x512.Idx) (a : Fin 2) :
    ((own d k).emb j a).val = (![256 * (d.val / 8) + 32 * k.val, 0] : Fin 2 → Nat) a + (j a).val := by
  rw [← k0_off1_eq d k]
  show k0_off1 d (BitVec.ofNat 32 (32 * k.val)) a + 1 * (j a).val = _; rw [Nat.one_mul]
theorem emb_oth_val (d : Dev nD) (k : Fin 8) (j : S32x512.Idx) (a : Fin 2) :
    ((oth d k).emb j a).val = (![(32 * k.val + 256) - 256 * (d.val / 8), 0] : Fin 2 → Nat) a + (j a).val := by
  rw [← k0_off2_eq d k]
  show k0_off2 d (BitVec.ofNat 32 (32 * k.val)) a + 1 * (j a).val = _; rw [Nat.one_mul]

theorem mem_R (k : Fin 8) (i : S256x512.Idx) : i ∈ (R k).set ↔ (i 0).val / 32 = k.val := by
  rw [LoadRect.mem_set]
  constructor
  · intro h
    obtain ⟨j, hj, e⟩ := h 0
    have hj : j < 32 := hj
    have e : (i 0).val = 32 * k.val + 1 * j := e
    omega
  · intro h a
    match a with
    | ⟨0, _⟩ => exact ⟨(i 0).val - 32 * k.val, by show _ < 32; omega, by show (i 0).val = 32 * k.val + 1 * _; omega⟩
    | ⟨1, _⟩ => exact ⟨(i 1).val, (i 1).isLt, by show (i 1).val = 0 + 1 * _; omega⟩

theorem mem_own (d : Dev nD) (k : Fin 8) (i : S512x512.Idx) :
    i ∈ (own d k).set ↔ (i 0).val / 256 = d.val / 8 ∧ (i 0).val % 256 / 32 = k.val := by
  have hk := k.isLt
  have hd := half_lt d
  have h0 : (own d k).off 0 = 256 * (d.val / 8) + 32 * k.val := congrFun (k0_off1_eq d k) 0
  have h1 : (own d k).off 1 = 0 := congrFun (k0_off1_eq d k) 1
  rw [LoadRect.mem_set]
  constructor
  · intro h
    obtain ⟨j, hj, e⟩ := h 0
    have hj : j < 32 := hj
    have e : (i 0).val = (own d k).off 0 + 1 * j := e
    rw [h0] at e
    omega
  · intro h a
    match a with
    | ⟨0, _⟩ => exact ⟨(i 0).val - (own d k).off 0, by show _ < 32; rw [h0]; omega, by show (i 0).val = (own d k).off 0 + 1 * _; rw [h0]; omega⟩
    | ⟨1, _⟩ => exact ⟨(i 1).val, (i 1).isLt, by show (i 1).val = (own d k).off 1 + 1 * _; rw [h1]; omega⟩

theorem mem_oth (d : Dev nD) (k : Fin 8) (i : S512x512.Idx) :
    i ∈ (oth d k).set ↔ (i 0).val / 256 ≠ d.val / 8 ∧ (i 0).val % 256 / 32 = k.val := by
  have hk := k.isLt
  have hd := half_lt d
  have hi : (i 0).val < 512 := (i 0).isLt
  have h0 : (oth d k).off 0 = (32 * k.val + 256) - 256 * (d.val / 8) := congrFun (k0_off2_eq d k) 0
  have h1 : (oth d k).off 1 = 0 := congrFun (k0_off2_eq d k) 1
  rw [LoadRect.mem_set]
  constructor
  · intro h
    obtain ⟨j, hj, e⟩ := h 0
    have hj : j < 32 := hj
    have e : (i 0).val = (oth d k).off 0 + 1 * j := e
    rw [h0] at e
    omega
  · intro h a
    match a with
    | ⟨0, _⟩ => exact ⟨(i 0).val - (oth d k).off 0, by show _ < 32; rw [h0]; omega, by show (i 0).val = (oth d k).off 0 + 1 * _; rw [h0]; omega⟩
    | ⟨1, _⟩ => exact ⟨(i 1).val, (i 1).isLt, by show (i 1).val = (oth d k).off 1 + 1 * _; rw [h1]; omega⟩

theorem lo_own (d : Dev nD) (k : Fin 8) (j : S32x512.Idx) : lo ((own d k).emb j) = (R k).emb j := by
  have hk := k.isLt
  have hd := half_lt d
  have hj : (j 0).val < 32 := (j 0).isLt
  have e0 : ((own d k).emb j 0).val = 256 * (d.val / 8) + 32 * k.val + (j 0).val := emb_own_val d k j 0
  have e1 : ((own d k).emb j 1).val = 0 + (j 1).val := emb_own_val d k j 1
  funext a; apply Fin.ext; rw [emb_R_val]
  match a with
  | ⟨0, _⟩ => show ((own d k).emb j 0).val % 256 = 32 * k.val + (j 0).val; omega
  | ⟨1, _⟩ => show ((own d k).emb j 1).val = 0 + (j 1).val; exact e1

theorem lo_oth (d : Dev nD) (k : Fin 8) (j : S32x512.Idx) : lo ((oth d k).emb j) = (R k).emb j := by
  have hk := k.isLt
  have hd := half_lt d
  have hj : (j 0).val < 32 := (j 0).isLt
  have e0 : ((oth d k).emb j 0).val = ((32 * k.val + 256) - 256 * (d.val / 8)) + (j 0).val := emb_oth_val d k j 0
  have e1 : ((oth d k).emb j 1).val = 0 + (j 1).val := emb_oth_val d k j 1
  funext a; apply Fin.ext; rw [emb_R_val]
  match a with
  | ⟨0, _⟩ => show ((oth d k).emb j 0).val % 256 = 32 * k.val + (j 0).val; omega
  | ⟨1, _⟩ => show ((oth d k).emb j 1).val = 0 + (j 1).val; exact e1

theorem own_mem (d : Dev nD) (k : Fin 8) (j : S32x512.Idx) : ((own d k).emb j 0).val / 256 = d.val / 8 :=
  ((mem_own d k _).mp ((own d k).idx_mem j)).1
theorem oth_mem (d : Dev nD) (k : Fin 8) (j : S32x512.Idx) : ((oth d k).emb j 0).val / 256 ≠ d.val / 8 :=
  ((mem_oth d k _).mp ((oth d k).idx_mem j)).1

/-! ## The payloads are the contents read at the piece -/

section Pays

variable (rows : Dev nD → Vec F S256x512 .f32) (ids : Dev nD → Vec F S256x1 .i32)

theorem pay4_eq (d : Dev nD) (k : Fin 8) :
    Gen.k0_pay4 (fun j => rows d ((R k).emb j)) = fun j => pbv rows d ((R k).emb j) := by
  exact shapeCast_id (truncf .bf16 (fun j => rows d ((R k).emb j)) bitsLt_bf16_f32) _

/-- The mask's column, broadcast along the rows of a piece, is its broadcast along all rows, at the piece. -/
theorem bcast_piece (q : Vec F S256x1 .f32) (k : Fin 8) (j : S32x512.Idx) :
    broadcastTo S32x512 (fun j => q ((Q1 k).emb j)) broadcasts_S32x1_S32x512 j
      = broadcastTo S256x512 q broadcasts_S256x1_S256x512 ((R k).emb j) := by
  unfold broadcastTo
  refine congrArg q (funext fun a => Fin.ext ?_)
  rw [emb_Q_val]
  match a with
  | ⟨0, _⟩ => exact (emb_R_val k j 0).symm
  | ⟨1, _⟩ => rfl

theorem pay14_eq (d : Dev nD) (k : Fin 8) :
    Gen.k0_pay14 (fun j => pmv rows ids d ((R k).emb j)) (fun j => pbv rows (yp d) ((R k).emb j))
        (fun j => qv ids d ((Q1 k).emb j))
      = fun j => sv rows ids d ((R k).emb j) := by
  funext j
  unfold Gen.k0_pay14 sv
  show FloatOps.addf _ (FloatOps.mulf _ (broadcastTo S32x512 (fun j => qv ids d ((Q1 k).emb j)) broadcasts_S32x1_S32x512 j)) = _
  rw [bcast_piece]
  rfl

theorem pay14_out (d : Dev nD) (k : Fin 8) :
    Gen.k0_pay14 (fun j => pmv rows ids d ((R k).emb j)) (fun j => pbv rows (yp d) ((R k).emb j))
        (fun j => qv ids d ((Q1 k).emb j))
      = fun j => outv rows ids d ((own d k).emb j) := by
  rw [pay14_eq]
  funext j
  unfold outv
  rw [if_pos (own_mem d k j), lo_own]

theorem pay15_eq (d : Dev nD) (k : Fin 8) :
    Gen.k0_pay15 (fun j => pmv rows ids d ((R k).emb j)) (fun j => pbv rows (yp d) ((R k).emb j))
        (fun j => qv ids d ((Q1 k).emb j))
      = fun j => xsv rows ids d ((R k).emb j) := by
  refine (shapeCast_id (truncf .bf16 (Gen.k0_pay14 _ _ _) bitsLt_bf16_f32) _).trans ?_
  rw [pay14_eq]
  rfl

theorem pay1_out (d : Dev nD) (k : Fin 8) :
    Gen.k0_pay1 (fun j => xsv rows ids (xp d) ((R k).emb j)) = fun j => outv rows ids d ((oth d k).emb j) := by
  funext j
  unfold Gen.k0_pay1 outv
  rw [if_neg (oth_mem d k j), lo_oth]
  rfl

end Pays

end Cert.KernelIdeal.Pieces

end
-- ==== Proof.Protocol.lean ====
/- The devices' protocol as a schedule of the rounds library. Every cell has one round.

   * A device's barrier cell is paid one unit by each partner. The y partner hands over its y receive
     buffer's pieces, the x partner its x receive buffer's, each with the fact that the receive cells
     they pay into are in round 0.
   * The load cell is paid by the local copy of the gathered rows: both buffers come back.
   * Of piece `k`: the y send cell gives back the piece sent, the y receive cell holds the y partner's
     rounded rows; the x cells the same with the x partner's sums.

   A core waits on its barrier (level 1) owing receive credits (levels 2 and 3), and on its y receive
   cells (level 2) owing x receive credits (level 3); all other waits owe nothing above. -/
module

public import proofs.«01_k».proof.Proof.Contents
public import Idealize.ShloMosaic.Lib.Pipeline.Regions
public import Idealize.ShloMosaic.Lib.Pipeline.Kit
public import Idealize.ShloMosaic.Lib.Rounds
public import Idealize.ShloMosaic.Lib.StableHlo
public import Idealize.ShloMosaic.Lib.Tactic
public import Idealize.ShloMosaic.PureOps
public import Idealize.ShloMosaic.Lib.Pipeline.RegionTalk

@[expose] public section

noncomputable section

namespace Cert.KernelIdeal.Pieces

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## Cells and their roles -/

abbrev cl (d : Dev nD) (sm : SemLoc sig) : GSem nD τ sig := ((d : Thread nD τ), sm)
abbrev bar : SemLoc sig := .reg barS
abbrev ld : SemLoc sig := .dma ldS
abbrev ys (k : Fin 8) : SemLoc sig := .dma (ysS k)
abbrev yr (k : Fin 8) : SemLoc sig := .dma (yrS k)
abbrev xs (k : Fin 8) : SemLoc sig := .dma (xsS k)
abbrev xr (k : Fin 8) : SemLoc sig := .dma (xrS k)

inductive Role where
  | none | bar | ld | ys (k : Fin 8) | yr (k : Fin 8) | xs (k : Fin 8) | xr (k : Fin 8)
deriving DecidableEq

/-- What a semaphore is for: by its number. -/
def role : SemLoc sig → Role
  | .reg _ => .bar
  | .dma s =>
    if s.val < 2 then .none
    else if s.val = 2 then .ld
    else if s.val < 11 then .ys (Fin.ofNat 8 (s.val - 3))
    else if s.val < 19 then .yr (Fin.ofNat 8 (s.val - 11))
    else if s.val < 27 then .xs (Fin.ofNat 8 (s.val - 19))
    else .xr (Fin.ofNat 8 (s.val - 27))

theorem role_bar : role bar = .bar := rfl
theorem role_ld : role ld = .ld := by decide +kernel
theorem role_ys (k : Fin 8) : role (ys k) = .ys k := by revert k; decide +kernel
theorem role_yr (k : Fin 8) : role (yr k) = .yr k := by revert k; decide +kernel
theorem role_xs (k : Fin 8) : role (xs k) = .xs k := by revert k; decide +kernel
theorem role_xr (k : Fin 8) : role (xr k) = .xr k := by revert k; decide +kernel

/-! ## The credits of the transfers -/

abbrev NL : ℕ := (pfM : Memref sig .tc .vmem S256x512 .f32).view.dmaCredit
abbrev NP : ℕ := (pc yrM 0 : Memref sig .tc .vmem S32x512 .bf16).view.dmaCredit
theorem NL_pos : 0 < NL := View.dmaCredit_pos _ (by decide)
theorem NP_pos : 0 < NP := View.dmaCredit_pos _ (by decide)

/-! ## Points-tos -/

/-- Piece `k` of a bf16 buffer of device `d`, at contents of the whole buffer. -/
abbrev pcPt (M : Memref sig .tc .vmem S256x512 .bf16) (k : Fin 8) (d : Dev nD)
    (f : Buf (Elt F) ((pc M k).view.loc (d : Thread nD τ))) : sProp 𝕄 :=
  (pc M k).view.loc (d : Thread nD τ) ↦[(pc M k).view.set]{fullShare} f

/-- A whole buffer of device `d`. -/
abbrev whPt {sp : Space} {s : Shape} {e : EltTy} (M : Memref sig .tc sp s e) (d : Dev nD)
    (f : Buf (Elt F) (M.view.loc (d : Thread nD τ))) : sProp 𝕄 :=
  M.view.loc (d : Thread nD τ) ↦[M.view.set]{fullShare} f

/-- Storing, in a view, what some contents read there, leaves those contents. -/
theorem pt_write {sp : Space} {s : Shape} {e : EltTy} (v : View sig .tc sp s e) (d : Dev nD)
    (f g : Buf (Elt F) (v.loc (d : Thread nD τ))) (w : s.Idx → Elt F e) (h : w = v.read (Elt F) g) :
    (v.loc (d : Thread nD τ) ↦[v.set]{fullShare} (v.write (Elt F) f w Finset.univ) : sProp 𝕄)
      = v.loc (d : Thread nD τ) ↦[v.set]{fullShare} g := by
  subst h
  rw [View.write_read_eq_piecewise, View.setOn_univ]
  exact pointsTo_congr fun i hi => Finset.piecewise_eq_of_mem _ _ _ hi

/-! ## The schedule -/

section Sched

variable (rows : Dev nD → Vec F S256x512 .f32) (ids : Dev nD → Vec F S256x1 .i32)

/-- What the y partner `e` of a device pays its barrier with, and the x partner. -/
def yGift (e : Dev nD) : sProp 𝕄 :=
  bigSep Finset.univ fun k : Fin 8 => iprop((∃ f, pcPt yrM k e f) ∗ reached ER (cl e (yr k)) 0)
def xGift (e : Dev nD) : sProp 𝕄 :=
  bigSep Finset.univ fun k : Fin 8 => iprop((∃ f, pcPt xrM k e f) ∗ reached ER (cl e (xr k)) 0)

def ldPay (d : Dev nD) : sProp 𝕄 := iprop(whPt pfM d (rows d) ∗ whPt rowsM d (rows d))
def ysPay (d : Dev nD) (k : Fin 8) : sProp 𝕄 := pcPt pbM k d (pbv rows d)
def yrPay (d : Dev nD) (k : Fin 8) : sProp 𝕄 := pcPt yrM k d (pbv rows (yp d))
def xsPay (d : Dev nD) (k : Fin 8) : sProp 𝕄 := pcPt xsM k d (xsv rows ids d)
def xrPay (d : Dev nD) (k : Fin 8) : sProp 𝕄 := pcPt xrM k d (xsv rows ids (xp d))

/-- The duties, the amounts and what is handed over, by role. -/
def roleDuties : Role → Finset Bool
  | .none => ∅ | .bar => Finset.univ | _ => {false}
def roleAmount : Role → ℕ
  | .bar => 1 | .ld => NL | _ => NP
def rolePay (d : Dev nD) (b : Bool) : Role → sProp 𝕄
  | .none => iprop(emp)
  | .bar => if b then xGift (xp d) else yGift (yp d)
  | .ld => ldPay rows d
  | .ys k => ysPay rows d k
  | .yr k => yrPay rows d k
  | .xs k => xsPay rows ids d k
  | .xr k => xrPay rows ids d k

def rd : Rounds.Schedule (GSem nD τ sig) Bool 𝕄 where
  duties g r := if r = 0 ∧ g.1.2 = .tc then roleDuties (role g.2) else ∅
  unitless _ := False
  amount g _ _ := roleAmount (role g.2)
  payload g _ b := rolePay rows ids g.1.1 b (role g.2)
  amount_pos g _ _ _ := by
    show 0 < roleAmount (role g.2)
    cases role g.2 <;> first | exact Nat.one_pos | exact NL_pos | exact NP_pos

instance yGift_storable (e : Dev nD) : BI.Storable (upEmb : UEmb _ 𝕄) (yGift (F := F) e) := by unfold yGift; infer_instance
instance xGift_storable (e : Dev nD) : BI.Storable (upEmb : UEmb _ 𝕄) (xGift (F := F) e) := by unfold xGift; infer_instance
instance ldPay_storable (d : Dev nD) : BI.Storable (upEmb : UEmb _ 𝕄) (ldPay rows d) := by unfold ldPay; infer_instance
instance ysPay_storable (d : Dev nD) (k : Fin 8) : BI.Storable (upEmb : UEmb _ 𝕄) (ysPay rows d k) := by unfold ysPay; infer_instance
instance yrPay_storable (d : Dev nD) (k : Fin 8) : BI.Storable (upEmb : UEmb _ 𝕄) (yrPay rows d k) := by unfold yrPay; infer_instance
instance xsPay_storable (d : Dev nD) (k : Fin 8) : BI.Storable (upEmb : UEmb _ 𝕄) (xsPay rows ids d k) := by unfold xsPay; infer_instance
instance xrPay_storable (d : Dev nD) (k : Fin 8) : BI.Storable (upEmb : UEmb _ 𝕄) (xrPay rows ids d k) := by unfold xrPay; infer_instance

instance rolePay_storable (d : Dev nD) (b : Bool) : ∀ r : Role, BI.Storable (upEmb : UEmb _ 𝕄) (rolePay rows ids d b r)
  | .none => inferInstanceAs (BI.Storable _ (iprop(emp)))
  | .bar => by
    cases b
    · exact inferInstanceAs (BI.Storable _ (yGift (yp d)))
    · exact inferInstanceAs (BI.Storable _ (xGift (xp d)))
  | .ld => inferInstanceAs (BI.Storable _ (ldPay rows d))
  | .ys k => inferInstanceAs (BI.Storable _ (ysPay rows d k))
  | .yr k => inferInstanceAs (BI.Storable _ (yrPay rows d k))
  | .xs k => inferInstanceAs (BI.Storable _ (xsPay rows ids d k))
  | .xr k => inferInstanceAs (BI.Storable _ (xrPay rows ids d k))

instance rd_storable (g : GSem nD τ sig) (r : ℕ) (b : Bool) :
    BI.Storable (upEmb : UEmb _ 𝕄) ((rd rows ids).payload g r b) :=
  rolePay_storable rows ids g.1.1 b (role g.2)

variable (d : Dev nD) (k : Fin 8)

theorem duties_of (sm : SemLoc sig) : (rd rows ids).duties (cl d sm) 0 = roleDuties (role sm) := by
  dsimp only [rd]; exact if_pos ⟨rfl, rfl⟩
theorem amount_of (sm : SemLoc sig) (b : Bool) : (rd rows ids).amount (cl d sm) 0 b = roleAmount (role sm) := rfl
theorem payload_of (sm : SemLoc sig) (b : Bool) : (rd rows ids).payload (cl d sm) 0 b = rolePay rows ids d b (role sm) := rfl

theorem duties_later (g : GSem nD τ sig) : ∀ r, 1 ≤ r → (rd rows ids).duties g r = ∅ :=
  fun r hr => if_neg fun h => by omega

theorem expect_of (sm : SemLoc sig) (h : roleDuties (role sm) = {false}) :
    (rd rows ids).expect (cl d sm) 0 = roleAmount (role sm) := by
  unfold Schedule.expect Schedule.amountOf
  rw [duties_of, h, Finset.sum_singleton, amount_of]
theorem rest_of (sm : SemLoc sig) (h : roleDuties (role sm) = {false}) :
    bigSep ((rd rows ids).duties (cl d sm) 0 \ ∅) (fun b => (rd rows ids).payload (cl d sm) 0 b)
      = rolePay rows ids d false (role sm) := by
  rw [Finset.sdiff_empty, duties_of, h, bigSep_singleton, payload_of]

theorem expect_bar : (rd rows ids).expect (cl d bar) 0 = 2 := by
  unfold Schedule.expect Schedule.amountOf
  rw [duties_of]
  rfl
theorem rest_bar : bigSep ((rd rows ids).duties (cl d bar) 0 \ ∅) (fun b => (rd rows ids).payload (cl d bar) 0 b)
    = iprop(yGift (yp d) ∗ xGift (xp d)) := by
  rw [Finset.sdiff_empty, duties_of, show roleDuties (role bar) = (Finset.univ : Finset Bool) from rfl,
    bigSep_univ_eq_bigSepL [false, true] (by decide) (by decide)]
  rfl

theorem duty_mem (sm : SemLoc sig) (h : roleDuties (role sm) = {false}) : false ∈ (rd rows ids).duties (cl d sm) 0 := by
  rw [duties_of, h]; exact Finset.mem_singleton_self _
theorem duty_bar (b : Bool) : b ∈ (rd rows ids).duties (cl d bar) 0 := by
  rw [duties_of]; exact Finset.mem_univ b

theorem one_ld : roleDuties (role ld) = {false} := by rw [role_ld]; rfl
theorem one_ys : roleDuties (role (ys k)) = {false} := by rw [role_ys]; rfl
theorem one_yr : roleDuties (role (yr k)) = {false} := by rw [role_yr]; rfl
theorem one_xs : roleDuties (role (xs k)) = {false} := by rw [role_xs]; rfl
theorem one_xr : roleDuties (role (xr k)) = {false} := by rw [role_xr]; rfl
theorem amt_ld : roleAmount (role ld) = NL := by rw [role_ld]; rfl
theorem amt_ys : roleAmount (role (ys k)) = NP := by rw [role_ys]; rfl
theorem amt_yr : roleAmount (role (yr k)) = NP := by rw [role_yr]; rfl
theorem amt_xs : roleAmount (role (xs k)) = NP := by rw [role_xs]; rfl
theorem amt_xr : roleAmount (role (xr k)) = NP := by rw [role_xr]; rfl
theorem pay_ld : rolePay rows ids d false (role ld) = ldPay rows d := by rw [role_ld]; rfl
theorem pay_ys : rolePay rows ids d false (role (ys k)) = ysPay rows d k := by rw [role_ys]; rfl
theorem pay_yr : rolePay rows ids d false (role (yr k)) = yrPay rows d k := by rw [role_yr]; rfl
theorem pay_xs : rolePay rows ids d false (role (xs k)) = xsPay rows ids d k := by rw [role_xs]; rfl
theorem pay_xr : rolePay rows ids d false (role (xr k)) = xrPay rows ids d k := by rw [role_xr]; rfl

theorem close (κ : ℕ) (g : GSem nD τ sig) :
    iprop(cellInv ER (rd rows ids) κ g ∗ atPos ER g (0 + 1) ∅ 0) ⊢ (|={Set.univ}=> semVal g 0 : sProp 𝕄) :=
  Rounds.cell_close ER (rd rows ids) (Set.mem_univ κ) id (duties_later rows ids g)

end Sched

/-! ## What each core owes; the levels -/

/-- The receive credits of device `e` on the pieces listed. -/
def owL (f : Fin 8 → SemLoc sig) (e : Dev nD) : List (Fin 8) → CellTallies nD τ sig Unit
  | [] => 0
  | k :: ks => owL f e ks + tallyAt (cl e (f k)) () NP

theorem owL_pos (f : Fin 8 → SemLoc sig) (e : Dev nD) (ks : List (Fin 8)) (g : GSem nD τ sig) (u : Unit)
    (h : 0 < owL f e ks g u) : ∃ k, g = cl e (f k) := by
  induction ks with
  | nil => exact absurd h (Nat.lt_irrefl 0)
  | cons k ks ih =>
    have h : 0 < owL f e ks g u + tallyAt (cl e (f k)) () NP g u := h
    rcases Nat.eq_zero_or_pos (owL f e ks g u) with h0 | h0
    · rw [h0, Nat.zero_add, tallyAt_apply] at h
      by_cases hg : g = cl e (f k) ∧ u = ()
      · exact ⟨k, hg.1⟩
      · rw [if_neg hg] at h; exact absurd h (Nat.lt_irrefl 0)
    · exact ih h0

/-- Once both partners are met: the credits of the y transfers listed and of all x transfers; -/
def oweY (d : Dev nD) (ks : List (Fin 8)) : CellTallies nD τ sig Unit := owL xr (xp d) all8 + owL yr (yp d) ks
/-- once the y transfers are out: those of the x transfers listed; -/
def oweX (d : Dev nD) (ks : List (Fin 8)) : CellTallies nD τ sig Unit := owL xr (xp d) ks
/-- at launch: the partners' barrier units besides. -/
def O₀ (d : Dev nD) : CellTallies nD τ sig Unit :=
  (oweY d all8 + tallyAt (cl (xp d) bar) () 1) + tallyAt (cl (yp d) bar) () 1

theorem oweY_cons (d : Dev nD) (k : Fin 8) (ks : List (Fin 8)) :
    oweY d (k :: ks) = oweY d ks + tallyAt (cl (yp d) (yr k)) () NP := (add_assoc _ _ _).symm
theorem oweY_nil (d : Dev nD) : oweY d [] = oweX d all8 := add_zero _
theorem oweX_cons (d : Dev nD) (k : Fin 8) (ks : List (Fin 8)) :
    oweX d (k :: ks) = oweX d ks + tallyAt (cl (xp d) (xr k)) () NP := rfl
theorem oweX_nil (d : Dev nD) : oweX d [] = 0 := rfl

def roleLev : Role → ℕ
  | .bar => 1 | .ld => 1 | .yr _ => 2 | .xr _ => 3 | _ => 0

def L (g : GSem nD τ sig) : Finset Unit := if g.1.2 = .tc then {()} else ∅
def lv (g : GSem nD τ sig) (_ : Unit) : ℕ := roleLev (role g.2)

theorem L_of_ne (g : GSem nD τ sig) (h : g.1.2 ≠ .tc) : L g = ∅ := if_neg h
theorem L_tc (d : Dev nD) (sm : SemLoc sig) : L (cl d sm) = {()} := if_pos rfl
theorem lv_yr (d : Dev nD) (k : Fin 8) : lv (cl d (yr k)) () = 2 := by show roleLev (role (yr k)) = 2; rw [role_yr]; rfl
theorem lv_xr (d : Dev nD) (k : Fin 8) : lv (cl d (xr k)) () = 3 := by show roleLev (role (xr k)) = 3; rw [role_xr]; rfl

/-- A wait is allowed below everything owed. -/
theorem mayWait_of (d : Dev nD) (sm : SemLoc sig) (O : CellTallies nD τ sig Unit) (n : ℕ)
    (hs : lv (cl d sm) () ≤ n) (hO : ∀ g u, 0 < O g u → (∃ e sm', g = cl e sm') ∧ n < lv g ()) :
    (levAts L lv : sProp 𝕄) ⊢ MayWait (d : Thread nD τ) sm () O :=
  MayOwe.of_cut (L := L) (lev := lv) n
    (fun p hp => by rw [Finset.mem_singleton.mp hp, L_tc]; exact Finset.mem_singleton_self _)
    (fun g u hg => by
      obtain ⟨⟨e, sm', rfl⟩, -⟩ := hO g u hg
      rw [L_tc]; exact Finset.mem_singleton_self _)
    (fun p hp => by rw [Finset.mem_singleton.mp hp]; exact hs)
    (fun g u hg => (hO g u hg).2)

theorem oweX_above (d : Dev nD) (ks : List (Fin 8)) (g : GSem nD τ sig) (u : Unit) (h : 0 < oweX d ks g u) :
    (∃ e sm', g = cl e sm') ∧ 2 < lv g () := by
  obtain ⟨k, rfl⟩ := owL_pos _ _ _ _ _ h
  exact ⟨⟨_, _, rfl⟩, by rw [lv_xr]; decide⟩

theorem oweY_above (d : Dev nD) (ks : List (Fin 8)) (g : GSem nD τ sig) (u : Unit) (h : 0 < oweY d ks g u) :
    (∃ e sm', g = cl e sm') ∧ 1 < lv g () := by
  have h : 0 < owL xr (xp d) all8 g u + owL yr (yp d) ks g u := h
  rcases Nat.eq_zero_or_pos (owL xr (xp d) all8 g u) with h0 | h0
  · rw [h0, Nat.zero_add] at h
    obtain ⟨k, rfl⟩ := owL_pos _ _ _ _ _ h
    exact ⟨⟨_, _, rfl⟩, by rw [lv_yr]; decide⟩
  · obtain ⟨k, rfl⟩ := owL_pos _ _ _ _ _ h0
    exact ⟨⟨_, _, rfl⟩, by rw [lv_xr]; decide⟩

theorem mayWait_bar (d : Dev nD) : (levAts L lv : sProp 𝕄) ⊢ MayWait (d : Thread nD τ) bar () (oweY d all8) :=
  mayWait_of d bar _ 1 (Nat.le_refl 1) (oweY_above d all8)
theorem mayWait_ld (d : Dev nD) : (levAts L lv : sProp 𝕄) ⊢ MayWait (d : Thread nD τ) ld () (oweY d all8) :=
  mayWait_of d ld _ 1 (by show roleLev (role ld) ≤ 1; rw [role_ld]; exact Nat.le_refl 1) (oweY_above d all8)
theorem mayWait_yr (d : Dev nD) (k : Fin 8) (ks : List (Fin 8)) :
    (levAts L lv : sProp 𝕄) ⊢ MayWait (d : Thread nD τ) (yr k) () (oweX d ks) :=
  mayWait_of d (yr k) _ 2 (by rw [lv_yr]) (oweX_above d ks)

/-! ## The cells' invariants -/

/-- A kernel's own semaphores: the load's, and four for each piece. -/
abbrev Own : Type := Option (Fin 4 × Fin 8)
def osem : Own → SemLoc sig
  | none => ld
  | some (0, k) => ys k
  | some (1, k) => yr k
  | some (2, k) => xs k
  | some (3, k) => xr k

section Recs

variable (rows : Dev nD → Vec F S256x512 .f32) (ids : Dev nD → Vec F S256x1 .i32)

/-- Every cell's invariant, at the names the launch allocated them at. -/
def recs (κ : GSem nD τ sig → ℕ) : sProp 𝕄 :=
  iprop((bigSep Finset.univ fun d : Dev nD => cellInv ER (rd rows ids) (κ (cl d bar)) (cl d bar))
    ∗ bigSep Finset.univ fun p : Dev nD × Own => cellInv ER (rd rows ids) (κ (cl p.1 (osem p.2))) (cl p.1 (osem p.2)))

instance recs_persistent (κ : GSem nD τ sig → ℕ) : BI.Persistent (recs rows ids κ) := by unfold recs; infer_instance

theorem inv_bar (κ : GSem nD τ sig → ℕ) (d : Dev nD) :
    recs rows ids κ ⊢ cellInv ER (rd rows ids) (κ (cl d bar)) (cl d bar) := by
  unfold recs
  exact (Idealize.SL.BI.Entails.trans Idealize.SL.BI.sep_and Idealize.SL.BI.and_elimL).trans (bigSep_elim (Finset.mem_univ d))
theorem inv_own (κ : GSem nD τ sig → ℕ) (d : Dev nD) (o : Own) :
    recs rows ids κ ⊢ cellInv ER (rd rows ids) (κ (cl d (osem o))) (cl d (osem o)) := by
  unfold recs
  exact (Idealize.SL.BI.Entails.trans Idealize.SL.BI.sep_and Idealize.SL.BI.and_elimR).trans
    (bigSep_elim (Finset.mem_univ (d, o)) (Φ := fun p : Dev nD × Own => cellInv ER (rd rows ids) (κ (cl p.1 (osem p.2))) (cl p.1 (osem p.2))))

end Recs

/-! ## Chains along a list of pieces -/

section Chain

variable {M : Type} [URA M]

def sepL (Φ : Fin 8 → sProp M) : List (Fin 8) → sProp M
  | [] => iprop(emp)
  | k :: ks => iprop(Φ k ∗ sepL Φ ks)

theorem bigSep_sepL (Φ : Fin 8 → sProp M) : bigSep Finset.univ Φ = sepL Φ all8 := by
  rw [bigSep_univ_eq_bigSepL all8 (by decide) (by decide)]
  show iprop(_ ∗ _ ∗ _ ∗ _ ∗ _ ∗ _ ∗ _ ∗ Φ 7) = iprop(_ ∗ _ ∗ _ ∗ _ ∗ _ ∗ _ ∗ _ ∗ Φ 7 ∗ emp)
  rw [show iprop(Φ 7 ∗ emp) = Φ 7 from equiv_iff.mp sep_emp]

end Chain

end Cert.KernelIdeal.Pieces

end
-- ==== Proof.WalkA.lean ====
/- The first stages' specifications: one piece of the y transfer, and running a stage over a list of pieces. -/
module

public import proofs.«01_k».proof.Proof.Protocol

@[expose] public section

noncomputable section

namespace Cert.KernelIdeal.Pieces

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-- A part of the body on device `d` meets a postcondition. -/
abbrev wpB (d : Dev nD) (p : P0 F PUnit) (Q : PUnit → sProp 𝕄) : sProp 𝕄 :=
  wp frame (wpE (defs₀ (F := F)) 𝒱₀ (d : Thread nD τ) none) Set.univ p Q

/-- A stage that takes one piece forward, run over a list of pieces. -/
theorem wp_runs (d : Dev nD) (f : Fin 8 → P0 F PUnit) (Todo Done : Fin 8 → sProp 𝕄) (S : List (Fin 8) → sProp 𝕄)
    (h : ∀ k ks (Q : PUnit → sProp 𝕄), iprop(Todo k ∗ S (k :: ks) ∗ (Done k -∗ S ks -∗ Q ⟨⟩)) ⊢ wpB d (f k) Q) :
    ∀ ks (Q : PUnit → sProp 𝕄), iprop(sepL Todo ks ∗ S ks ∗ (sepL Done ks -∗ S [] -∗ Q ⟨⟩)) ⊢ wpB d (runs f ks) Q
  | [], Q => by
    unfold wpB runs sepL
    rw [wp_ret]
    iintro ⟨-, HS, Hk⟩
    imodintro
    iapply Hk $$ [] [HS]
    · iempintro
    iexact HS
  | k :: ks, Q => by
    unfold wpB runs sepL
    rw [wp_bind]
    iintro ⟨⟨Ht, Hts⟩, HS, Hk⟩
    iapply (h k ks _)
    isplitl [Ht]; · iexact Ht
    isplitl [HS]; · iexact HS
    iintro HD HS
    iapply (wp_runs d f Todo Done S h ks Q)
    isplitl [Hts]; · iexact Hts
    isplitl [HS]; · iexact HS
    iintro HDs HS
    iapply Hk $$ [HD HDs] [HS]
    · isplitl [HD]; · iexact HD
      iexact HDs
    iexact HS

section A

variable (rows : Dev nD → Vec F S256x512 .f32) (ids : Dev nD → Vec F S256x1 .i32) (κ : GSem nD τ sig → ℕ) (d : Dev nD)

/-- What piece `k` of the y transfer needs, what it leaves, and what the stages share. -/
def todoA (k : Fin 8) : sProp 𝕄 :=
  iprop((∃ f, pcPt pbM k d f) ∗ ((∃ f, pcPt yrM k (yp d) f) ∗ reached ER (cl (yp d) (yr k)) 0)
    ∗ dutyTok ER (cl d (ys k)) 0 false ∗ reached ER (cl d (ys k)) 0 ∗ dutyTok ER (cl (yp d) (yr k)) 0 false)
def doneA (k : Fin 8) : sProp 𝕄 := cred (tallyAt (cl d (ys k)) () NP)
def stateA (ks : List (Fin 8)) : sProp 𝕄 :=
  iprop(recs rows ids κ ∗ whPt pfM d (rows d) ∗ ∃ W, owes (d : Thread nD τ) (oweY d ks) W)

theorem stored_pb (k : Fin 8) (f : Buf (Elt F) ((pc pbM k).view.loc (d : Thread nD τ))) :
    ((pbM.access (R k)).loc (d : Thread nD τ) ↦[(pc pbM k).view.set]{fullShare}
        (pbM.access (R k)).write (Elt F) f (Gen.k0_pay4 ((pfM.access (R k)).read (Elt F) (rows d))) Finset.univ : sProp 𝕄)
      ⊢ pcPt pbM k d (pbv rows d) :=
  Entails.of_eq (pt_write (F := F) (pc pbM k).view d f (pbv rows d) _ (pay4_eq rows d k))

set_option maxHeartbeats 1000000 in
theorem wp_stA (k : Fin 8) (ks : List (Fin 8)) (Q : PUnit → sProp 𝕄) :
    iprop(todoA d k ∗ stateA rows ids κ d (k :: ks) ∗ (doneA d k -∗ stateA rows ids κ d ks -∗ Q ⟨⟩))
      ⊢ wpB d (stA d k) Q := by
  unfold todoA stateA doneA
  iintro ⟨⟨⟨%f1, Hpb⟩, ⟨⟨%f2, Hyr⟩, #Hr2⟩, Ht1, #Hr1, Ht2⟩, ⟨#HR, Hpf, ⟨%W, HO⟩⟩, Hk⟩
  rw [oweY_cons]
  iapply (wp_load_rect 𝒱₀ (d : Thread nD τ) none Set.univ (m := pfM) (r := R k) (View.set_slice_subset _ _)) $$ Hpf
  iintro Hpf
  iapply (wp_load_rect 𝒱₀ (d : Thread nD τ) none Set.univ (m := pbM) (r := R k) (S := (pc pbM k).view.set) (Finset.Subset.refl _)) $$ Hpb
  iintro Hpb
  iapply (wp_store 𝒱₀ (d : Thread nD τ) none Set.univ (m := pbM) (r := R k) (Mk := Finset.univ) (S := (pc pbM k).view.set) (Finset.Subset.refl _)) $$ Hpb
  iintro Hpb
  ihave Hpb' := (stored_pb rows d k f1) $$ Hpb
  iapply (Rounds.wp_send_pointsTo 𝒱₀ ER (rd rows ids) (d : Thread nD τ) none (c' := (yp d : Thread nD τ)) (src := pc pbM k) (dst := pc yrM k)
      (sS := ys k) (sem := yr k) (q := fullShare) (fs := pbv rows d) (κ₁ := κ (cl d (ys k))) (κ₂ := κ (cl (yp d) (yr k)))
      (r₁ := 0) (r₂ := 0) (d₁ := false) (d₂ := false) (fd := f2)
      (duty_mem rows ids d (ys k) (one_ys k)) (duty_mem rows ids (yp d) (yr k) (one_yr k))
      () () NP rfl (amt_ys k) (amt_yr k) (oweY d ks) rfl (W := W)
      (by rw [payload_of, pay_ys]; exact BI.Entails.refl _)
      (by rw [payload_of, pay_yr]; unfold yrPay; rw [yp_yp]; exact Entails.of_eq (pt_write (F := F) (pc yrM k).view (yp d) f2 (pbv rows d) _ rfl))) $$ [Hpb' Hyr HO Ht1 Ht2]
  · isplitr; · iapply (inv_own rows ids κ d (some (0, k))); iexact HR
    isplitr; · iapply (inv_own rows ids κ (yp d) (some (1, k))); iexact HR
    isplitl [Hpb']; · iexact Hpb'
    isplitl [Hyr]; · iexact Hyr
    isplitl [HO]; · iexact HO
    isplitl [Ht1]; · iexact Ht1
    isplitr; · iexact Hr1
    isplitl [Ht2]; · iexact Ht2
    iexact Hr2
  iintro ⟨HcS, HO⟩
  rw [wp_ret]
  imodintro
  iapply Hk $$ [HcS] [Hpf HO]
  · iexact HcS
  isplitr; · iexact HR
  isplitl [Hpf]; · iexact Hpf
  iexists W; iexact HO

end A

end Cert.KernelIdeal.Pieces

end
-- ==== Proof.WalkB.lean ====
/- The specifications of the other stages: the head, the masking, one piece of the x transfer and one piece taken in. -/
module

public import proofs.«01_k».proof.Proof.WalkA

@[expose] public section

noncomputable section

namespace Cert.KernelIdeal.Pieces

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

section B

variable (rows : Dev nD → Vec F S256x512 .f32) (ids : Dev nD → Vec F S256x1 .i32) (κ : GSem nD τ sig → ℕ) (d : Dev nD)

/-! ## The head -/

def preHead : sProp 𝕄 :=
  iprop(recs rows ids κ ∗ levAts L lv ∗ whPt rowsM d (rows d) ∗ (∃ f, whPt pfM d f)
    ∗ (atPos ER (cl d bar) 0 ∅ 0 ∗ cred (tallyAt (cl d bar) () 2))
    ∗ (atPos ER (cl d ld) 0 ∅ 0 ∗ reached ER (cl d ld) 0 ∗ dutyTok ER (cl d ld) 0 false)
    ∗ (dutyTok ER (cl (yp d) bar) 0 false ∗ reached ER (cl (yp d) bar) 0 ∗ yGift d)
    ∗ (dutyTok ER (cl (xp d) bar) 0 true ∗ reached ER (cl (xp d) bar) 0 ∗ xGift d)
    ∗ ∃ W, owes (d : Thread nD τ) (O₀ d) W)
def postHead : sProp 𝕄 :=
  iprop(whPt rowsM d (rows d) ∗ whPt pfM d (rows d) ∗ atPos ER (cl d bar) (0 + 1) ∅ 0 ∗ atPos ER (cl d ld) (0 + 1) ∅ 0
    ∗ yGift (yp d) ∗ xGift (xp d) ∗ ∃ W, owes (d : Thread nD τ) (oweY d all8) W)

theorem expect_one (sm : SemLoc sig) (n : ℕ) (h : roleDuties (role sm) = {false}) (ha : roleAmount (role sm) = n) :
    0 + n = (rd rows ids).expect (cl d sm) 0 := by
  rw [expect_of rows ids d sm h, ha, Nat.zero_add]

theorem barPay_y : rolePay rows ids d false .bar = yGift (yp d) := rfl
theorem barPay_x : rolePay rows ids d true .bar = xGift (xp d) := rfl
theorem giftY : (rd rows ids).payload (cl (yp d) bar) 0 false = yGift (F := F) d := by
  rw [payload_of, role_bar, barPay_y, yp_yp]
theorem giftX : (rd rows ids).payload (cl (xp d) bar) 0 true = xGift (F := F) d := by
  rw [payload_of, role_bar, barPay_x, xp_xp]

set_option maxHeartbeats 1000000 in
theorem wp_head (Q : PUnit → sProp 𝕄) :
    iprop(preHead rows ids κ d ∗ (postHead rows d -∗ Q ⟨⟩)) ⊢ wpB d (head d) Q := by
  unfold preHead postHead
  iintro ⟨⟨#HR, #Hlev, Hrows, ⟨%f0, Hpf⟩, ⟨HaB, HcB⟩, ⟨HaL, #HrL, HtL⟩, ⟨HtY, #HrY, HgY⟩, ⟨HtX, #HrX, HgX⟩, ⟨%W, HO⟩⟩, Hk⟩
  iapply (Rounds.wp_copy_pointsTo 𝒱₀ ER (rd rows ids) (d : Thread nD τ) none (src := rowsM) (dst := pfM) (sem := ld) (q := fullShare)
      (fs := rows d) (fd := f0) (r := 0) (d := false) (κ := κ (cl d ld))
      (duty_mem rows ids d ld one_ld) () NL rfl amt_ld
      (by rw [payload_of, pay_ld]; unfold ldPay
          exact BIClass.sep_mono (Entails.of_eq (pt_write (F := F) (pfM : Memref sig .tc .vmem S256x512 .f32).view d f0 (rows d) _ rfl)) (Entails.refl _))) $$ [Hrows Hpf HtL]
  · isplitr; · iapply (inv_own rows ids κ d none); iexact HR
    isplitl [Hrows]; · iexact Hrows
    isplitl [Hpf]; · iexact Hpf
    isplitl [HtL]; · iexact HtL
    iexact HrL
  iintro HcL
  iapply (Rounds.wp_signal 𝒱₀ ER (rd rows ids) (d : Thread nD τ) none (dst := (yp d : Thread nD τ)) (sem := barS) (r := 0) (d := false) (κ := κ (cl (yp d) bar)) (k' := 1)
      (duty_bar rows ids (yp d) false) rfl () (oweY d all8 + tallyAt (cl (xp d) bar) () 1) rfl) $$ [HO HtY HgY]
  · isplitr; · iapply (inv_bar rows ids κ (yp d)); iexact HR
    isplitl [HO]; · iexact HO
    isplitl [HtY]; · iexact HtY
    isplitl [HgY]
    · rw [giftY]; iexact HgY
    iexact HrY
  iintro HO
  iapply (Rounds.wp_signal 𝒱₀ ER (rd rows ids) (d : Thread nD τ) none (dst := (xp d : Thread nD τ)) (sem := barS) (r := 0) (d := true) (κ := κ (cl (xp d) bar)) (k' := 1)
      (duty_bar rows ids (xp d) true) rfl () (oweY d all8) rfl) $$ [HO HtX HgX]
  · isplitr; · iapply (inv_bar rows ids κ (xp d)); iexact HR
    isplitl [HO]; · iexact HO
    isplitl [HtX]; · iexact HtX
    isplitl [HgX]
    · rw [giftX]; iexact HgX
    iexact HrX
  iintro HO
  iapply (Rounds.wp_wait_rest_token 𝒱₀ ER (rd rows ids) (d : Thread nD τ) none (κ := κ (cl d bar)) (k' := 2)
      (wpE_semWait_eq 𝒱₀ (d : Thread nD τ) none Set.univ) (Set.mem_univ _) () (O := oweY d all8) (W := W) (R := 0) (m := 0) (T := ∅)
      ((Nat.zero_add 2).trans (expect_bar rows ids d).symm)) $$ [HcB HO HaB]
  · isplitr; · iapply (inv_bar rows ids κ d); iexact HR
    isplitl [HcB]; · iexact HcB
    isplitl [HO]; · iexact HO
    isplitr; · iapply (mayWait_bar d); iexact Hlev
    iexact HaB
  iintro ⟨HO, HaB, -, Hpay⟩
  ihave Hp := (Entails.of_eq (rest_bar rows ids d)) $$ Hpay
  icases Hp with ⟨HgY, HgX⟩
  iapply (Rounds.wp_wait_rest_token 𝒱₀ ER (rd rows ids) (d : Thread nD τ) none (κ := κ (cl d ld)) (k' := NL)
      (wpE_waitDma2_eq (src := rowsM) (dst := pfM) 𝒱₀ (d : Thread nD τ) none Set.univ) (Set.mem_univ _) () (O := oweY d all8)
      (W := insert (bar, ()) W) (R := 0) (m := 0) (T := ∅)
      (expect_one rows ids d ld NL one_ld amt_ld)) $$ [HcL HO HaL]
  · isplitr; · iapply (inv_own rows ids κ d none); iexact HR
    isplitl [HcL]; · iexact HcL
    isplitl [HO]; · iexact HO
    isplitr; · iapply (mayWait_ld d); iexact Hlev
    iexact HaL
  iintro ⟨HO, HaL, -, Hpay⟩
  ihave Hp := (Entails.of_eq ((rest_of rows ids d ld one_ld).trans ((pay_ld rows ids d).trans (by unfold ldPay; rfl)))) $$ Hpay
  icases Hp with ⟨Hpf, Hrows⟩
  rw [wp_ret]
  imodintro
  iapply Hk
  isplitl [Hrows]; · iexact Hrows
  isplitl [Hpf]; · iexact Hpf
  isplitl [HaB]; · iexact HaB
  isplitl [HaL]; · iexact HaL
  isplitl [HgY]; · iexact HgY
  isplitl [HgX]; · iexact HgX
  iexists _; iexact HO

/-! ## The masking -/

def preMid : sProp 𝕄 :=
  iprop(whPt idsM d (ids d) ∗ whPt pfM d (rows d) ∗ (∃ f, whPt pmM d f) ∗ ∃ f, whPt qM d f)
def postMid : sProp 𝕄 :=
  iprop(whPt idsM d (ids d) ∗ whPt pfM d (rows d) ∗ whPt pmM d (pmv rows ids d) ∗ whPt qM d (qv ids d))

abbrev whole1 : Rect S256x1 := Rect.unit (s := S256x1) ![0, 0] S256x1.size inb_S256x1_S256x1_0_0
abbrev whole512 : Rect S256x512 := Rect.unit (s := S256x512) ![0, 0] S256x512.size inb_S256x512_S256x512_0_0
theorem zeros : (![0, 0] : Fin 2 → ℕ) = fun _ => 0 := by funext a; revert a; decide

theorem read_ids : (idsM.access whole1).read (Elt F) (ids d) = ids d :=
  Memref.read_access_unit_zero (Elt F) cc0_stg0_0 zeros inb_S256x1_S256x1_0_0 (ids d)
theorem read_pf : (pfM.access whole512).read (Elt F) (rows d) = rows d :=
  Memref.read_access_unit_zero (Elt F) cc0_scratch0 zeros inb_S256x512_S256x512_0_0 (rows d)

theorem stored_pm (f : Buf (Elt F) (pmM.view.loc (d : Thread nD τ))) :
    ((pmM.access whole512).loc (d : Thread nD τ) ↦[pmM.view.set]{fullShare}
        (pmM.access whole512).write (Elt F) f (Gen.k0_pay12 (yw d) ((idsM.access whole1).read (Elt F) (ids d)) ((pfM.access whole512).read (Elt F) (rows d))) Finset.univ : sProp 𝕄)
      ⊢ whPt pmM d (pmv rows ids d) := by
  rw [read_ids, read_pf]
  refine Entails.of_eq (congrArg (fun g => (pmM.view.loc (d : Thread nD τ) ↦[pmM.view.set]{fullShare} g : sProp 𝕄)) ?_)
  exact Memref.write_access_unit_zero_univ (Elt F) cc0_scratch3 zeros inb_S256x512_S256x512_0_0 f (pmv rows ids d)

theorem stored_q (f : Buf (Elt F) (qM.view.loc (d : Thread nD τ))) :
    ((qM.access whole1).loc (d : Thread nD τ) ↦[qM.view.set]{fullShare}
        (qM.access whole1).write (Elt F) f (Gen.k0_pay13 (yw d) ((idsM.access whole1).read (Elt F) (ids d))) Finset.univ : sProp 𝕄)
      ⊢ whPt qM d (qv ids d) := by
  rw [read_ids]
  refine Entails.of_eq (congrArg (fun g => (qM.view.loc (d : Thread nD τ) ↦[qM.view.set]{fullShare} g : sProp 𝕄)) ?_)
  exact Memref.write_access_unit_zero_univ (Elt F) cc0_scratch4 zeros inb_S256x1_S256x1_0_0 f (qv ids d)

set_option maxHeartbeats 1000000 in
theorem wp_mid (Q : PUnit → sProp 𝕄) :
    iprop(preMid rows ids d ∗ (postMid rows ids d -∗ Q ⟨⟩)) ⊢ wpB d (mid d) Q := by
  unfold preMid postMid
  iintro ⟨⟨Hids, Hpf, ⟨%f1, Hpm⟩, ⟨%f2, Hq⟩⟩, Hk⟩
  iapply (wp_load_rect 𝒱₀ (d : Thread nD τ) none Set.univ (m := idsM) (r := whole1) (View.set_slice_subset _ _)) $$ Hids
  iintro Hids
  iapply (wp_load_rect 𝒱₀ (d : Thread nD τ) none Set.univ (m := pfM) (r := whole512) (View.set_slice_subset _ _)) $$ Hpf
  iintro Hpf
  iapply (wp_load_rect 𝒱₀ (d : Thread nD τ) none Set.univ (m := pmM) (r := whole512) (View.set_slice_subset _ _)) $$ Hpm
  iintro Hpm
  iapply (wp_store 𝒱₀ (d : Thread nD τ) none Set.univ (m := pmM) (r := whole512) (Mk := Finset.univ) (S := pmM.view.set) (View.set_slice_subset _ _)) $$ Hpm
  iintro Hpm
  ihave Hpm := (stored_pm rows ids d f1) $$ Hpm
  iapply (wp_load_rect 𝒱₀ (d : Thread nD τ) none Set.univ (m := qM) (r := whole1) (View.set_slice_subset _ _)) $$ Hq
  iintro Hq
  iapply (wp_store 𝒱₀ (d : Thread nD τ) none Set.univ (m := qM) (r := whole1) (Mk := Finset.univ) (S := qM.view.set) (View.set_slice_subset _ _)) $$ Hq
  iintro Hq
  ihave Hq := (stored_q ids d f2) $$ Hq
  rw [wp_ret]
  imodintro
  iapply Hk
  isplitl [Hids]; · iexact Hids
  isplitl [Hpf]; · iexact Hpf
  isplitl [Hpm]; · iexact Hpm
  iexact Hq

/-! ## The result as it fills -/

/-- The own half of the result is right but for the pieces listed; -/
def OutB (ks : List (Fin 8)) (f : Vec F S512x512 .f32) : Prop :=
  ∀ i : S512x512.Idx, (i 0).val / 256 = d.val / 8 → (∀ k ∈ ks, (i 0).val % 256 / 32 ≠ k.val) → f i = outv rows ids d i
/-- the own half is right, and the other but for the pieces listed. -/
def OutC (ks : List (Fin 8)) (f : Vec F S512x512 .f32) : Prop :=
  ∀ i : S512x512.Idx, ((i 0).val / 256 = d.val / 8 ∨ ∀ k ∈ ks, (i 0).val % 256 / 32 ≠ k.val) → f i = outv rows ids d i

theorem outB_all (f : Vec F S512x512 .f32) : OutB rows ids d all8 f := fun i _ h => by
  have h' : (i 0).val % 256 / 32 < 8 := by omega
  exact absurd rfl (h ⟨_, h'⟩ (by have : ∀ k : Fin 8, k ∈ all8 := by decide
                                  exact this _))
theorem outC_of_outB (f : Vec F S512x512 .f32) (h : OutB rows ids d [] f) : OutC rows ids d all8 f := fun i hi => by
  rcases hi with hi | hi
  · exact h i hi fun k hk => absurd hk List.not_mem_nil
  · have h' : (i 0).val % 256 / 32 < 8 := by omega
    exact absurd rfl (hi ⟨_, h'⟩ (by have : ∀ k : Fin 8, k ∈ all8 := by decide
                                     exact this _))
theorem outC_nil (f : Vec F S512x512 .f32) (h : OutC rows ids d [] f) : f = outv rows ids d :=
  funext fun i => h i (.inr fun k hk => absurd hk List.not_mem_nil)

/-- Storing what the result reads in a rectangle pieces the result in there. -/
theorem out_write (r : Rect S512x512) (f : Vec F S512x512 .f32) (w : r.shape.Idx → F .f32)
    (hw : w = fun j => outv rows ids d (r.emb j)) :
    ((outM : Memref sig .tc .vmem S512x512 .f32).access r).write (Elt F) f w Finset.univ = r.set.piecewise (outv rows ids d) f := by
  subst hw
  refine (View.write_read_eq_piecewise (v := (outM.access r)) f (outv rows ids d) Finset.univ).trans ?_
  have : (outM.access r : View sig .tc .vmem r.shape .f32).setOn Finset.univ = r.set := View.set_slice_whole cc0_stg1_0 r
  rw [this]

theorem outB_step (k : Fin 8) (ks : List (Fin 8)) (f : Vec F S512x512 .f32) (h : OutB rows ids d (k :: ks) f) :
    OutB rows ids d ks ((own d k).set.piecewise (outv rows ids d) f) := fun i hi hks => by
  by_cases hm : i ∈ (own d k).set
  · exact Finset.piecewise_eq_of_mem _ _ _ hm
  · rw [Finset.piecewise_eq_of_notMem _ _ _ hm]
    refine h i hi fun k' hk' => ?_
    rcases List.mem_cons.mp hk' with rfl | hk'
    · exact fun e => hm ((mem_own d k' i).mpr ⟨hi, e⟩)
    · exact hks k' hk'
theorem outC_step (k : Fin 8) (ks : List (Fin 8)) (f : Vec F S512x512 .f32) (h : OutC rows ids d (k :: ks) f) :
    OutC rows ids d ks ((oth d k).set.piecewise (outv rows ids d) f) := fun i hi => by
  by_cases hm : i ∈ (oth d k).set
  · exact Finset.piecewise_eq_of_mem _ _ _ hm
  · rw [Finset.piecewise_eq_of_notMem _ _ _ hm]
    by_cases hd : (i 0).val / 256 = d.val / 8
    · exact h i (.inl hd)
    · refine h i (.inr fun k' hk' => ?_)
      rcases List.mem_cons.mp hk' with rfl | hk'
      · exact fun e => hm ((mem_oth d k' i).mpr ⟨hd, e⟩)
      · exact (hi.resolve_left hd) k' hk'

/-! ## One piece of the x transfer -/

def todoB (k : Fin 8) : sProp 𝕄 :=
  iprop((atPos ER (cl d (yr k)) 0 ∅ 0 ∗ cred (tallyAt (cl d (yr k)) () NP))
    ∗ (∃ f, pcPt xsM k d f) ∗ ((∃ f, pcPt xrM k (xp d) f) ∗ reached ER (cl (xp d) (xr k)) 0)
    ∗ dutyTok ER (cl d (xs k)) 0 false ∗ reached ER (cl d (xs k)) 0 ∗ dutyTok ER (cl (xp d) (xr k)) 0 false)
def doneB (k : Fin 8) : sProp 𝕄 :=
  iprop(atPos ER (cl d (yr k)) (0 + 1) ∅ 0 ∗ pcPt yrM k d (pbv rows (yp d)) ∗ cred (tallyAt (cl d (xs k)) () NP))
def stateB (ks : List (Fin 8)) : sProp 𝕄 :=
  iprop(recs rows ids κ ∗ levAts L lv ∗ whPt pmM d (pmv rows ids d) ∗ whPt qM d (qv ids d)
    ∗ (∃ f, ⌜OutB rows ids d ks f⌝ ∗ whPt outM d f) ∗ ∃ W, owes (d : Thread nD τ) (oweX d ks) W)

theorem stored_own (k : Fin 8) (f : Vec F S512x512 .f32) :
    ((outM.access (own d k)).loc (d : Thread nD τ) ↦[outM.view.set]{fullShare}
        (outM.access (own d k)).write (Elt F) f (Gen.k0_pay14 ((pmM.access (R k)).read (Elt F) (pmv rows ids d))
          ((yrM.access (R k)).read (Elt F) (pbv rows (yp d))) ((qM.access (Q1 k)).read (Elt F) (qv ids d))) Finset.univ : sProp 𝕄)
      ⊢ whPt outM d ((own d k).set.piecewise (outv rows ids d) f) :=
  Entails.of_eq (congrArg (fun g => (outM.view.loc (d : Thread nD τ) ↦[outM.view.set]{fullShare} g : sProp 𝕄))
    (out_write rows ids d (own d k) f _ (pay14_out rows ids d k)))

theorem stored_xs (k : Fin 8) (f : Buf (Elt F) ((pc xsM k).view.loc (d : Thread nD τ))) :
    ((xsM.access (R k)).loc (d : Thread nD τ) ↦[(pc xsM k).view.set]{fullShare}
        (xsM.access (R k)).write (Elt F) f (Gen.k0_pay15 ((pmM.access (R k)).read (Elt F) (pmv rows ids d))
          ((yrM.access (R k)).read (Elt F) (pbv rows (yp d))) ((qM.access (Q1 k)).read (Elt F) (qv ids d))) Finset.univ : sProp 𝕄)
      ⊢ pcPt xsM k d (xsv rows ids d) :=
  Entails.of_eq (pt_write (F := F) (pc xsM k).view d f (xsv rows ids d) _ (pay15_eq rows ids d k))

set_option maxHeartbeats 2000000 in
theorem wp_stB (k : Fin 8) (ks : List (Fin 8)) (Q : PUnit → sProp 𝕄) :
    iprop(todoB d k ∗ stateB rows ids κ d (k :: ks) ∗ (doneB rows d k -∗ stateB rows ids κ d ks -∗ Q ⟨⟩))
      ⊢ wpB d (stB d k) Q := by
  unfold todoB stateB doneB
  iintro ⟨⟨⟨HaY, HcY⟩, ⟨%f1, Hxs⟩, ⟨⟨%f2, Hxr⟩, #Hr2⟩, Ht1, #Hr1, Ht2⟩, ⟨#HR, #Hlev, Hpm, Hq, ⟨%fo, %ho, Hout⟩, ⟨%W, HO⟩⟩, Hk⟩
  iapply (Rounds.wp_wait_rest_token 𝒱₀ ER (rd rows ids) (d : Thread nD τ) none (κ := κ (cl d (yr k))) (k' := NP)
      (wpE_waitDma2_eq (src := pc pbM k) (dst := pc yrM k) 𝒱₀ (d : Thread nD τ) none Set.univ) (Set.mem_univ _) () (O := oweX d (k :: ks))
      (W := W) (R := 0) (m := 0) (T := ∅) (expect_one rows ids d (yr k) NP (one_yr k) (amt_yr k))) $$ [HcY HO HaY]
  · isplitr; · iapply (inv_own rows ids κ d (some (1, k))); iexact HR
    isplitl [HcY]; · iexact HcY
    isplitl [HO]; · iexact HO
    isplitr; · iapply (mayWait_yr d k (k :: ks)); iexact Hlev
    iexact HaY
  iintro ⟨HO, HaY, -, Hpay⟩
  ihave Hyr := (Entails.of_eq ((rest_of rows ids d (yr k) (one_yr k)).trans ((pay_yr rows ids d k).trans (by unfold yrPay; rfl)))) $$ Hpay
  rw [oweX_cons]
  iapply (wp_load_rect 𝒱₀ (d : Thread nD τ) none Set.univ (m := pmM) (r := R k) (View.set_slice_subset _ _)) $$ Hpm
  iintro Hpm
  iapply (wp_load_rect 𝒱₀ (d : Thread nD τ) none Set.univ (m := yrM) (r := R k) (S := (pc yrM k).view.set) (Finset.Subset.refl _)) $$ Hyr
  iintro Hyr
  iapply (wp_load_rect 𝒱₀ (d : Thread nD τ) none Set.univ (m := qM) (r := Q1 k) (View.set_slice_subset _ _)) $$ Hq
  iintro Hq
  iapply (wp_load_rect 𝒱₀ (d : Thread nD τ) none Set.univ (m := outM) (r := own d k) (View.set_slice_subset _ _)) $$ Hout
  iintro Hout
  iapply (wp_store 𝒱₀ (d : Thread nD τ) none Set.univ (m := outM) (r := own d k) (Mk := Finset.univ) (S := outM.view.set) (View.set_slice_subset _ _)) $$ Hout
  iintro Hout
  ihave Hout := (stored_own rows ids d k fo) $$ Hout
  iapply (wp_load_rect 𝒱₀ (d : Thread nD τ) none Set.univ (m := xsM) (r := R k) (S := (pc xsM k).view.set) (Finset.Subset.refl _)) $$ Hxs
  iintro Hxs
  iapply (wp_store 𝒱₀ (d : Thread nD τ) none Set.univ (m := xsM) (r := R k) (Mk := Finset.univ) (S := (pc xsM k).view.set) (Finset.Subset.refl _)) $$ Hxs
  iintro Hxs
  ihave Hxs := (stored_xs rows ids d k f1) $$ Hxs
  iapply (Rounds.wp_send_pointsTo 𝒱₀ ER (rd rows ids) (d : Thread nD τ) none (c' := (xp d : Thread nD τ)) (src := pc xsM k) (dst := pc xrM k)
      (sS := xs k) (sem := xr k) (q := fullShare) (fs := xsv rows ids d) (κ₁ := κ (cl d (xs k))) (κ₂ := κ (cl (xp d) (xr k)))
      (r₁ := 0) (r₂ := 0) (d₁ := false) (d₂ := false) (fd := f2)
      (duty_mem rows ids d (xs k) (one_xs k)) (duty_mem rows ids (xp d) (xr k) (one_xr k))
      () () NP rfl (amt_xs k) (amt_xr k) (oweX d ks) rfl (W := insert (yr k, ()) W)
      (by rw [payload_of, pay_xs]; exact BI.Entails.refl _)
      (by rw [payload_of, pay_xr]; unfold xrPay; rw [xp_xp]; exact Entails.of_eq (pt_write (F := F) (pc xrM k).view (xp d) f2 (xsv rows ids d) _ rfl))) $$ [Hxs Hxr HO Ht1 Ht2]
  · isplitr; · iapply (inv_own rows ids κ d (some (2, k))); iexact HR
    isplitr; · iapply (inv_own rows ids κ (xp d) (some (3, k))); iexact HR
    isplitl [Hxs]; · iexact Hxs
    isplitl [Hxr]; · iexact Hxr
    isplitl [HO]; · iexact HO
    isplitl [Ht1]; · iexact Ht1
    isplitr; · iexact Hr1
    isplitl [Ht2]; · iexact Ht2
    iexact Hr2
  iintro ⟨HcS, HO⟩
  rw [wp_ret]
  imodintro
  iapply Hk $$ [HaY Hyr HcS] [Hpm Hq Hout HO]
  · isplitl [HaY]; · iexact HaY
    isplitl [Hyr]; · iexact Hyr
    iexact HcS
  isplitr; · iexact HR
  isplitr; · iexact Hlev
  isplitl [Hpm]; · iexact Hpm
  isplitl [Hq]; · iexact Hq
  isplitl [Hout]
  · iexists _
    isplitr; · ipureintro; exact outB_step rows ids d k ks fo ho
    iexact Hout
  iexists _; iexact HO

/-! ## One piece taken in -/

def todoC (k : Fin 8) : sProp 𝕄 :=
  iprop((atPos ER (cl d (ys k)) 0 ∅ 0 ∗ cred (tallyAt (cl d (ys k)) () NP))
    ∗ (atPos ER (cl d (xs k)) 0 ∅ 0 ∗ cred (tallyAt (cl d (xs k)) () NP))
    ∗ (atPos ER (cl d (xr k)) 0 ∅ 0 ∗ cred (tallyAt (cl d (xr k)) () NP)))
def doneC (k : Fin 8) : sProp 𝕄 :=
  iprop((atPos ER (cl d (ys k)) (0 + 1) ∅ 0 ∗ pcPt pbM k d (pbv rows d))
    ∗ (atPos ER (cl d (xs k)) (0 + 1) ∅ 0 ∗ pcPt xsM k d (xsv rows ids d))
    ∗ (atPos ER (cl d (xr k)) (0 + 1) ∅ 0 ∗ pcPt xrM k d (xsv rows ids (xp d))))
def stateC (ks : List (Fin 8)) : sProp 𝕄 :=
  iprop(recs rows ids κ ∗ (∃ f, ⌜OutC rows ids d ks f⌝ ∗ whPt outM d f) ∗ ∃ W, owes (d : Thread nD τ) (0 : CellTallies nD τ sig Unit) W)

theorem stored_oth (k : Fin 8) (f : Vec F S512x512 .f32) :
    ((outM.access (oth d k)).loc (d : Thread nD τ) ↦[outM.view.set]{fullShare}
        (outM.access (oth d k)).write (Elt F) f (Gen.k0_pay1 ((xrM.access (R k)).read (Elt F) (xsv rows ids (xp d)))) Finset.univ : sProp 𝕄)
      ⊢ whPt outM d ((oth d k).set.piecewise (outv rows ids d) f) :=
  Entails.of_eq (congrArg (fun g => (outM.view.loc (d : Thread nD τ) ↦[outM.view.set]{fullShare} g : sProp 𝕄))
    (out_write rows ids d (oth d k) f _ (pay1_out rows ids d k)))

set_option maxHeartbeats 2000000 in
theorem wp_stC (k : Fin 8) (ks : List (Fin 8)) (Q : PUnit → sProp 𝕄) :
    iprop(todoC d k ∗ stateC rows ids κ d (k :: ks) ∗ (doneC rows ids d k -∗ stateC rows ids κ d ks -∗ Q ⟨⟩))
      ⊢ wpB d (stC d k) Q := by
  unfold todoC stateC doneC
  iintro ⟨⟨⟨HaY, HcY⟩, ⟨HaX, HcX⟩, ⟨HaR, HcR⟩⟩, ⟨#HR, ⟨%fo, %ho, Hout⟩, ⟨%W, HO⟩⟩, Hk⟩
  iapply (Rounds.wp_wait_rest_token 𝒱₀ ER (rd rows ids) (d : Thread nD τ) none (κ := κ (cl d (ys k))) (k' := NP)
      (wpE_waitDma2_eq (src := pc yrM k) (dst := pc pbM k) 𝒱₀ (d : Thread nD τ) none Set.univ) (Set.mem_univ _) () (O := 0)
      (W := W) (R := 0) (m := 0) (T := ∅) (expect_one rows ids d (ys k) NP (one_ys k) (amt_ys k))) $$ [HcY HO HaY]
  · isplitr; · iapply (inv_own rows ids κ d (some (0, k))); iexact HR
    isplitl [HcY]; · iexact HcY
    isplitl [HO]; · iexact HO
    isplitr; · rw [MayWait_zero]; iempintro
    iexact HaY
  iintro ⟨HO, HaY, -, Hpay⟩
  ihave Hpb := (Entails.of_eq ((rest_of rows ids d (ys k) (one_ys k)).trans ((pay_ys rows ids d k).trans (by unfold ysPay; rfl)))) $$ Hpay
  iapply (Rounds.wp_wait_rest_token 𝒱₀ ER (rd rows ids) (d : Thread nD τ) none (κ := κ (cl d (xs k))) (k' := NP)
      (wpE_waitDma2_eq (src := pc xrM k) (dst := pc xsM k) 𝒱₀ (d : Thread nD τ) none Set.univ) (Set.mem_univ _) () (O := 0)
      (W := insert (ys k, ()) W) (R := 0) (m := 0) (T := ∅) (expect_one rows ids d (xs k) NP (one_xs k) (amt_xs k))) $$ [HcX HO HaX]
  · isplitr; · iapply (inv_own rows ids κ d (some (2, k))); iexact HR
    isplitl [HcX]; · iexact HcX
    isplitl [HO]; · iexact HO
    isplitr; · rw [MayWait_zero]; iempintro
    iexact HaX
  iintro ⟨HO, HaX, -, Hpay⟩
  ihave Hxs := (Entails.of_eq ((rest_of rows ids d (xs k) (one_xs k)).trans ((pay_xs rows ids d k).trans (by unfold xsPay; rfl)))) $$ Hpay
  iapply (Rounds.wp_wait_rest_token 𝒱₀ ER (rd rows ids) (d : Thread nD τ) none (κ := κ (cl d (xr k))) (k' := NP)
      (wpE_waitDma2_eq (src := pc xsM k) (dst := pc xrM k) 𝒱₀ (d : Thread nD τ) none Set.univ) (Set.mem_univ _) () (O := 0)
      (W := insert (xs k, ()) (insert (ys k, ()) W)) (R := 0) (m := 0) (T := ∅) (expect_one rows ids d (xr k) NP (one_xr k) (amt_xr k))) $$ [HcR HO HaR]
  · isplitr; · iapply (inv_own rows ids κ d (some (3, k))); iexact HR
    isplitl [HcR]; · iexact HcR
    isplitl [HO]; · iexact HO
    isplitr; · rw [MayWait_zero]; iempintro
    iexact HaR
  iintro ⟨HO, HaR, -, Hpay⟩
  ihave Hxr := (Entails.of_eq ((rest_of rows ids d (xr k) (one_xr k)).trans ((pay_xr rows ids d k).trans (by unfold xrPay; rfl)))) $$ Hpay
  iapply (wp_load_rect 𝒱₀ (d : Thread nD τ) none Set.univ (m := xrM) (r := R k) (S := (pc xrM k).view.set) (Finset.Subset.refl _)) $$ Hxr
  iintro Hxr
  iapply (wp_load_rect 𝒱₀ (d : Thread nD τ) none Set.univ (m := outM) (r := oth d k) (View.set_slice_subset _ _)) $$ Hout
  iintro Hout
  iapply (wp_store 𝒱₀ (d : Thread nD τ) none Set.univ (m := outM) (r := oth d k) (Mk := Finset.univ) (S := outM.view.set) (View.set_slice_subset _ _)) $$ Hout
  iintro Hout
  ihave Hout := (stored_oth rows ids d k fo) $$ Hout
  rw [wp_ret]
  imodintro
  iapply Hk $$ [HaY Hpb HaX Hxs HaR Hxr] [Hout HO]
  · isplitl [HaY Hpb]
    · isplitl [HaY]; · iexact HaY
      iexact Hpb
    isplitl [HaX Hxs]
    · isplitl [HaX]; · iexact HaX
      iexact Hxs
    isplitl [HaR]; · iexact HaR
    iexact Hxr
  isplitr; · iexact HR
  isplitl [Hout]
  · iexists _
    isplitr; · ipureintro; exact outC_step rows ids d k ks fo ho
    iexact Hout
  iexists _; iexact HO

end B

end Cert.KernelIdeal.Pieces

end
-- ==== Proof.Body.lean ====
/- The whole body on one device: buffers cut into pieces and joined again, the stages in order, and every cell closed before the return. -/
module

public import proofs.«01_k».proof.Proof.WalkB
public import Idealize.SL.ProofMode.BigOp

@[expose] public section

noncomputable section

namespace Cert.KernelIdeal.Pieces

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-! ## Pieces of a whole buffer -/

section Cut

variable (M : Memref sig .tc .vmem S256x512 .bf16) (d : Dev nD)

theorem pc_set (k : Fin 8) : (pc M k).view.set = (R k).set.map M.view.emb := View.set_slice M.view (R k)

theorem pc_disj (k k' : Fin 8) (h : k ≠ k') : Disjoint (pc M k).view.set (pc M k').view.set := by
  rw [pc_set, pc_set, Finset.disjoint_map, Finset.disjoint_left]
  exact fun i hi hi' => h (Fin.ext (((mem_R k i).mp hi).symm.trans ((mem_R k' i).mp hi')))

theorem pc_cover : (Finset.univ.biUnion fun k : Fin 8 => (pc M k).view.set) = M.view.set := by
  ext x
  constructor
  · intro hx
    obtain ⟨k, -, hk⟩ := Finset.mem_biUnion.mp hx
    rw [pc_set] at hk
    obtain ⟨i, -, rfl⟩ := Finset.mem_map.mp hk
    exact Finset.mem_map.mpr ⟨i, Finset.mem_univ _, rfl⟩
  · intro hx
    obtain ⟨i, -, rfl⟩ := Finset.mem_map.mp hx
    have h8 : (i 0).val / 32 < 8 := by
      have h := (i 0).isLt
      have : (i 0).val < 256 := h
      omega
    refine Finset.mem_biUnion.mpr ⟨⟨_, h8⟩, Finset.mem_univ _, ?_⟩
    rw [pc_set]
    exact Finset.mem_map.mpr ⟨i, (mem_R _ i).mpr rfl, rfl⟩

theorem pieces (f : Buf (Elt F) (M.view.loc (d : Thread nD τ))) :
    (whPt M d f : sProp 𝕄) = bigSep Finset.univ fun k : Fin 8 => pcPt M k d f := by
  have h := pointsTo_biUnion (ℓ := M.view.loc (d : Thread nD τ)) (q := fullShare) (f := f) (Val := Elt F) (Ix := Unit) (Name := ℕ) (U := UU) (Lvl := ℕ)
    (Finset.univ : Finset (Fin 8)) (fun k => (pc M k).view.set) (fun k _ k' _ h => pc_disj M k k' h)
  rw [pc_cover] at h
  exact h.trans (congrArg (bigSep Finset.univ) (funext fun k => rfl))

theorem cut : iprop(∃ f, whPt M d f) ⊢ (bigSep Finset.univ fun k : Fin 8 => iprop(∃ f, pcPt M k d f) : sProp 𝕄) := by
  iintro ⟨%f, H⟩
  have h : ∀ k : Fin 8, (pcPt M k d f : sProp 𝕄) ⊢ iprop(∃ f, pcPt M k d f) := fun k => by
    iintro H; iexists f; iexact H
  iapply ((Entails.of_eq (pieces M d f)).trans (bigSep_mono fun k _ => h k)) $$ H

theorem join (f : Buf (Elt F) (M.view.loc (d : Thread nD τ))) :
    (bigSep Finset.univ fun k : Fin 8 => pcPt M k d f : sProp 𝕄) ⊢ iprop(∃ f, whPt M d f) := by
  rw [← pieces]
  iintro H; iexists f; iexact H

end Cut

/-! ## A kernel's own cells, listed -/

theorem sep_join (Φ Ψ : Fin 8 → sProp 𝕄) :
    iprop(bigSep Finset.univ Φ ∗ bigSep Finset.univ Ψ) ⊢ (bigSep Finset.univ fun k => iprop(Φ k ∗ Ψ k) : sProp 𝕄) :=
  Entails.of_eq (bigSep_sep' _ _ _).symm

theorem own_list {M : Type} [URA M] (Φ : Own → sProp M) : bigSep Finset.univ Φ
    = iprop(Φ none ∗ (bigSep Finset.univ fun k : Fin 8 => Φ (some (0, k))) ∗ (bigSep Finset.univ fun k : Fin 8 => Φ (some (1, k)))
      ∗ (bigSep Finset.univ fun k : Fin 8 => Φ (some (2, k))) ∗ (bigSep Finset.univ fun k : Fin 8 => Φ (some (3, k)))) := by
  have h : (Finset.univ : Finset Own) = insert none ((Finset.univ : Finset (Fin 4 × Fin 8)).map Function.Embedding.some) := by
    ext o; cases o <;> simp
  rw [h, bigSep_insert (by simp), bigSep_map, bigSep_univ_prod,
    bigSep_univ_eq_bigSepL [(0 : Fin 4), 1, 2, 3] (by decide) (by decide)]
  rfl

section Whole

variable (rows : Dev nD → Vec F S256x512 .f32) (ids : Dev nD → Vec F S256x1 .i32) (κ : GSem nD τ sig → ℕ) (d : Dev nD)

/-! ## The body's start and end -/

def scratch : sProp 𝕄 :=
  iprop((∃ f, whPt pfM d f) ∗ (∃ f, whPt pbM d f) ∗ (∃ f, whPt yrM d f) ∗ (∃ f, whPt pmM d f) ∗ (∃ f, whPt qM d f)
    ∗ (∃ f, whPt xsM d f) ∗ (∃ f, whPt xrM d f))

/-- The duties a device discharges: both partners' barriers, its load, its transfers' two ends. -/
def toks : sProp 𝕄 :=
  iprop(dutyTok ER (cl (yp d) bar) 0 false ∗ dutyTok ER (cl (xp d) bar) 0 true ∗ dutyTok ER (cl d ld) 0 false
    ∗ (bigSep Finset.univ fun k : Fin 8 => dutyTok ER (cl d (ys k)) 0 false)
    ∗ (bigSep Finset.univ fun k : Fin 8 => dutyTok ER (cl (yp d) (yr k)) 0 false)
    ∗ (bigSep Finset.univ fun k : Fin 8 => dutyTok ER (cl d (xs k)) 0 false)
    ∗ (bigSep Finset.univ fun k : Fin 8 => dutyTok ER (cl (xp d) (xr k)) 0 false))
/-- What it waits with that others pay. -/
def creds : sProp 𝕄 :=
  iprop(cred (tallyAt (cl d bar) () 2)
    ∗ (bigSep Finset.univ fun k : Fin 8 => cred (tallyAt (cl d (yr k)) () NP))
    ∗ (bigSep Finset.univ fun k : Fin 8 => cred (tallyAt (cl d (xr k)) () NP)))
def opened : sProp 𝕄 := bigSep Finset.univ fun o : Own => iprop(atPos ER (cl d (osem o)) 0 ∅ 0 ∗ reached ER (cl d (osem o)) 0)

/-- What of the protocol a device enters its body with. -/
def ghost : sProp 𝕄 :=
  iprop(recs rows ids κ ∗ atPos ER (cl d bar) 0 ∅ 0 ∗ reached ER (cl (yp d) bar) 0 ∗ reached ER (cl (xp d) bar) 0 ∗ toks d ∗ creds d)

def bodyPre : sProp 𝕄 :=
  iprop(levAts L lv ∗ ghost rows ids κ d ∗ opened d ∗ whPt rowsM d (rows d) ∗ whPt idsM d (ids d) ∗ (∃ f, whPt outM d f) ∗ scratch d
    ∗ ∃ W, owes (d : Thread nD τ) (O₀ d) W)
def bodyPost : sProp 𝕄 :=
  iprop(semVal (cl d bar) 0 ∗ Pipeline.ownSems0 osem d ∗ whPt rowsM d (rows d) ∗ whPt idsM d (ids d) ∗ whPt outM d (outv rows ids d) ∗ scratch d
    ∗ ∃ W, owes (d : Thread nD τ) (0 : CellTallies nD τ sig Unit) W)

theorem wpB_bind (p q : P0 F PUnit) (Q : PUnit → sProp 𝕄) : wpB d p (fun _ => wpB d q Q) ⊢ wpB d (p >>= fun _ => q) Q :=
  Entails.of_eq (wp_bind _ _ _ p (fun _ => q) Q).symm

theorem wpB_fupd (p : P0 F PUnit) (Q : PUnit → sProp 𝕄) : wpB d p (fun a => iprop(|={Set.univ}=> Q a)) ⊢ wpB d p Q :=
  wp_fupd frame (wpE (defs₀ (F := F)) 𝒱₀ (d : Thread nD τ) none) Set.univ p Q

set_option maxRecDepth 65536 in
theorem wpB_staged (Q : PUnit → sProp 𝕄) :
    wpB d (head d >>= fun _ => runs (stA d) all8 >>= fun _ => mid d >>= fun _ => runs (stB d) all8 >>= fun _ => runs (stC d) all8) Q
      ⊢ wpB d (staged (F := F)) Q :=
  Entails.of_eq (wp_deviceId 𝒱₀ (d : Thread nD τ) none Set.univ (k := fun d => head d >>= fun _ => runs (stA d) all8 >>= fun _ => mid d >>= fun _ => runs (stB d) all8 >>= fun _ => runs (stC d) all8)).symm

/-! ## What the loops over pieces take and leave, whole -/

theorem todoA_all : sepL (todoA (F := F) d) all8
    = iprop((bigSep Finset.univ fun k : Fin 8 => iprop(∃ f, pcPt pbM k d f)) ∗ yGift (yp d)
      ∗ (bigSep Finset.univ fun k : Fin 8 => dutyTok ER (cl d (ys k)) 0 false)
      ∗ (bigSep Finset.univ fun k : Fin 8 => reached ER (cl d (ys k)) 0)
      ∗ (bigSep Finset.univ fun k : Fin 8 => dutyTok ER (cl (yp d) (yr k)) 0 false)) := by
  rw [← bigSep_sepL]; unfold todoA yGift
  simp only [bigSep_sep']
theorem todoB_all : sepL (todoB (F := F) d) all8
    = iprop(((bigSep Finset.univ fun k : Fin 8 => atPos ER (cl d (yr k)) 0 ∅ 0) ∗ (bigSep Finset.univ fun k : Fin 8 => cred (tallyAt (cl d (yr k)) () NP)))
      ∗ (bigSep Finset.univ fun k : Fin 8 => iprop(∃ f, pcPt xsM k d f)) ∗ xGift (xp d)
      ∗ (bigSep Finset.univ fun k : Fin 8 => dutyTok ER (cl d (xs k)) 0 false)
      ∗ (bigSep Finset.univ fun k : Fin 8 => reached ER (cl d (xs k)) 0)
      ∗ (bigSep Finset.univ fun k : Fin 8 => dutyTok ER (cl (xp d) (xr k)) 0 false)) := by
  rw [← bigSep_sepL]; unfold todoB xGift
  simp only [bigSep_sep']
theorem todoC_all : sepL (todoC (F := F) d) all8
    = iprop(((bigSep Finset.univ fun k : Fin 8 => atPos ER (cl d (ys k)) 0 ∅ 0) ∗ (bigSep Finset.univ fun k : Fin 8 => cred (tallyAt (cl d (ys k)) () NP)))
      ∗ ((bigSep Finset.univ fun k : Fin 8 => atPos ER (cl d (xs k)) 0 ∅ 0) ∗ (bigSep Finset.univ fun k : Fin 8 => cred (tallyAt (cl d (xs k)) () NP)))
      ∗ ((bigSep Finset.univ fun k : Fin 8 => atPos ER (cl d (xr k)) 0 ∅ 0) ∗ (bigSep Finset.univ fun k : Fin 8 => cred (tallyAt (cl d (xr k)) () NP)))) := by
  rw [← bigSep_sepL]; unfold todoC
  simp only [bigSep_sep']
theorem doneA_all : sepL (doneA (F := F) d) all8 = bigSep Finset.univ fun k : Fin 8 => cred (tallyAt (cl d (ys k)) () NP) := by
  rw [← bigSep_sepL]; unfold doneA; rfl
theorem doneB_all : sepL (doneB rows d) all8
    = iprop((bigSep Finset.univ fun k : Fin 8 => atPos ER (cl d (yr k)) (0 + 1) ∅ 0)
      ∗ (bigSep Finset.univ fun k : Fin 8 => pcPt yrM k d (pbv rows (yp d)))
      ∗ (bigSep Finset.univ fun k : Fin 8 => cred (tallyAt (cl d (xs k)) () NP))) := by
  rw [← bigSep_sepL]; unfold doneB
  simp only [bigSep_sep']
theorem doneC_all : sepL (doneC rows ids d) all8
    = iprop(((bigSep Finset.univ fun k : Fin 8 => atPos ER (cl d (ys k)) (0 + 1) ∅ 0) ∗ (bigSep Finset.univ fun k : Fin 8 => pcPt pbM k d (pbv rows d)))
      ∗ ((bigSep Finset.univ fun k : Fin 8 => atPos ER (cl d (xs k)) (0 + 1) ∅ 0) ∗ (bigSep Finset.univ fun k : Fin 8 => pcPt xsM k d (xsv rows ids d)))
      ∗ ((bigSep Finset.univ fun k : Fin 8 => atPos ER (cl d (xr k)) (0 + 1) ∅ 0) ∗ (bigSep Finset.univ fun k : Fin 8 => pcPt xrM k d (xsv rows ids (xp d))))) := by
  rw [← bigSep_sepL]; unfold doneC
  simp only [bigSep_sep']

theorem opened_list : opened (F := F) d
    = iprop((atPos ER (cl d ld) 0 ∅ 0 ∗ reached ER (cl d ld) 0)
      ∗ ((bigSep Finset.univ fun k : Fin 8 => atPos ER (cl d (ys k)) 0 ∅ 0) ∗ (bigSep Finset.univ fun k : Fin 8 => reached ER (cl d (ys k)) 0))
      ∗ ((bigSep Finset.univ fun k : Fin 8 => atPos ER (cl d (yr k)) 0 ∅ 0) ∗ (bigSep Finset.univ fun k : Fin 8 => reached ER (cl d (yr k)) 0))
      ∗ ((bigSep Finset.univ fun k : Fin 8 => atPos ER (cl d (xs k)) 0 ∅ 0) ∗ (bigSep Finset.univ fun k : Fin 8 => reached ER (cl d (xs k)) 0))
      ∗ ((bigSep Finset.univ fun k : Fin 8 => atPos ER (cl d (xr k)) 0 ∅ 0) ∗ (bigSep Finset.univ fun k : Fin 8 => reached ER (cl d (xr k)) 0))) := by
  unfold opened
  rw [own_list]
  simp only [bigSep_sep', osem]

theorem closed_list :
    iprop(atPos ER (cl d ld) (0 + 1) ∅ 0
      ∗ (bigSep Finset.univ fun k : Fin 8 => atPos ER (cl d (ys k)) (0 + 1) ∅ 0)
      ∗ (bigSep Finset.univ fun k : Fin 8 => atPos ER (cl d (yr k)) (0 + 1) ∅ 0)
      ∗ (bigSep Finset.univ fun k : Fin 8 => atPos ER (cl d (xs k)) (0 + 1) ∅ 0)
      ∗ (bigSep Finset.univ fun k : Fin 8 => atPos ER (cl d (xr k)) (0 + 1) ∅ 0))
    = (bigSep Finset.univ fun o : Own => atPos ER (cl d (osem o)) (0 + 1) ∅ 0 : sProp 𝕄) := by
  rw [own_list]; rfl

theorem invs_own : recs rows ids κ
    ⊢ (bigSep Finset.univ fun o : Own => cellInv ER (rd rows ids) (κ (cl d (osem o))) (cl d (osem o)) : sProp 𝕄) := by
  unfold recs
  rw [bigSep_univ_prod]
  exact (Idealize.SL.BI.Entails.trans Idealize.SL.BI.sep_and Idealize.SL.BI.and_elimR).trans
    (bigSep_elim (Finset.mem_univ d) (Φ := fun d : Dev nD => bigSep Finset.univ fun o : Own => cellInv ER (rd rows ids) (κ (cl d (osem o))) (cl d (osem o))))

/-- Every cell of the kernel's own closes at once. -/
theorem close_own : iprop(recs rows ids κ ∗ bigSep Finset.univ fun o : Own => atPos ER (cl d (osem o)) (0 + 1) ∅ 0)
    ⊢ (|={Set.univ}=> Pipeline.ownSems0 osem d : sProp 𝕄) := by
  have h : ∀ o : Own, iprop(cellInv ER (rd rows ids) (κ (cl d (osem o))) (cl d (osem o)) ∗ atPos ER (cl d (osem o)) (0 + 1) ∅ 0)
      ⊢ (|={Set.univ}=> semVal (cl d (osem o)) 0 : sProp 𝕄) := fun o => close rows ids _ _
  iintro ⟨#HR, Ha⟩
  ihave HI := (invs_own rows ids κ d) $$ HR
  iapply ((Entails.of_eq (bigSep_sep' (Finset.univ : Finset Own) _ _).symm).trans ((bigSep_mono fun o _ => h o).trans
    (bigSep_fupd (Finset.univ : Finset Own) (fun o => semVal (cl d (osem o)) 0)))) $$ [HI Ha]
  isplitl [HI]; · iexact HI
  iexact Ha

set_option maxHeartbeats 4000000 in
theorem wp_staged (Q : PUnit → sProp 𝕄) :
    iprop(bodyPre rows ids κ d ∗ (bodyPost rows ids d -∗ Q ⟨⟩)) ⊢ wpB d (staged (F := F)) Q := by
  refine BIBase.Entails.trans ?_ (wpB_fupd d (staged (F := F)) Q)
  unfold bodyPre bodyPost ghost toks creds scratch
  rw [opened_list]
  iintro ⟨⟨#Hlev, ⟨#HR, HaB, #HrY, #HrX, ⟨HtBY, HtBX, HtL, HtYS, HtYR, HtXS, HtXR⟩, ⟨HcB, HcYR, HcXR⟩⟩,
    ⟨⟨HaL, #HrL⟩, ⟨HaYS, HrYS⟩, ⟨HaYR, HrYR⟩, ⟨HaXS, HrXS⟩, ⟨HaXR, HrXR⟩⟩,
    Hrows, Hids, ⟨%fo, Hout⟩, ⟨Hpf, Hpb, Hyr, Hpm, Hq, Hxs, Hxr⟩, HO⟩, Hk⟩
  ihave Hpb := (cut pbM d) $$ Hpb
  ihave Hyr := (cut yrM d) $$ Hyr
  ihave Hxs := (cut xsM d) $$ Hxs
  ihave Hxr := (cut xrM d) $$ Hxr
  iapply (wpB_staged d _)
  iapply (wpB_bind d (head d) _ _)
  iapply (wp_head rows ids κ d _)
  isplitl [Hrows Hpf HaB HcB HaL HtL HtBY Hyr HrYR HtBX Hxr HrXR HO]
  · unfold preHead
    isplitr; · iexact HR
    isplitr; · iexact Hlev
    isplitl [Hrows]; · iexact Hrows
    isplitl [Hpf]; · iexact Hpf
    isplitl [HaB HcB]
    · isplitl [HaB]; · iexact HaB
      iexact HcB
    isplitl [HaL HtL]
    · isplitl [HaL]; · iexact HaL
      isplitr; · iexact HrL
      iexact HtL
    isplitl [HtBY Hyr HrYR]
    · isplitl [HtBY]; · iexact HtBY
      isplitr; · iexact HrY
      unfold yGift
      iapply (sep_join (fun k : Fin 8 => iprop(∃ f, pcPt yrM k d f)) (fun k => reached ER (cl d (yr k)) 0))
      isplitl [Hyr]; · iexact Hyr
      iexact HrYR
    isplitl [HtBX Hxr HrXR]
    · isplitl [HtBX]; · iexact HtBX
      isplitr; · iexact HrX
      unfold xGift
      iapply (sep_join (fun k : Fin 8 => iprop(∃ f, pcPt xrM k d f)) (fun k => reached ER (cl d (xr k)) 0))
      isplitl [Hxr]; · iexact Hxr
      iexact HrXR
    iexact HO
  unfold postHead
  iintro ⟨Hrows, Hpf, HaB, HaL, HgY, HgX, HO⟩
  iapply (wpB_bind d (runs (stA d) all8) _ _)
  iapply (wp_runs d (stA d) (todoA d) (doneA d) (stateA rows ids κ d) (fun k ks Q => wp_stA rows ids κ d k ks Q) all8 _)
  isplitl [Hpb HgY HtYS HrYS HtYR]
  · rw [todoA_all]
    isplitl [Hpb]; · iexact Hpb
    isplitl [HgY]; · iexact HgY
    isplitl [HtYS]; · iexact HtYS
    isplitl [HrYS]; · iexact HrYS
    iexact HtYR
  isplitl [Hpf HO]
  · unfold stateA
    isplitr; · iexact HR
    isplitl [Hpf]; · iexact Hpf
    iexact HO
  rw [doneA_all]
  unfold stateA
  iintro HcYS ⟨-, Hpf, HO⟩
  rw [oweY_nil]
  iapply (wpB_bind d (mid d) _ _)
  iapply (wp_mid rows ids d _)
  isplitl [Hids Hpf Hpm Hq]
  · unfold preMid
    isplitl [Hids]; · iexact Hids
    isplitl [Hpf]; · iexact Hpf
    isplitl [Hpm]; · iexact Hpm
    iexact Hq
  unfold postMid
  iintro ⟨Hids, Hpf, Hpm, Hq⟩
  iapply (wpB_bind d (runs (stB d) all8) _ _)
  iapply (wp_runs d (stB d) (todoB d) (doneB rows d) (stateB rows ids κ d) (fun k ks Q => wp_stB rows ids κ d k ks Q) all8 _)
  isplitl [HaYR HcYR Hxs HgX HtXS HrXS HtXR]
  · rw [todoB_all]
    isplitl [HaYR HcYR]
    · isplitl [HaYR]; · iexact HaYR
      iexact HcYR
    isplitl [Hxs]; · iexact Hxs
    isplitl [HgX]; · iexact HgX
    isplitl [HtXS]; · iexact HtXS
    isplitl [HrXS]; · iexact HrXS
    iexact HtXR
  isplitl [Hpm Hq Hout HO]
  · unfold stateB
    isplitr; · iexact HR
    isplitr; · iexact Hlev
    isplitl [Hpm]; · iexact Hpm
    isplitl [Hq]; · iexact Hq
    isplitl [Hout]
    · iexists fo
      isplitr; · ipureintro; exact outB_all rows ids d fo
      iexact Hout
    iexact HO
  rw [doneB_all]
  unfold stateB
  iintro ⟨HaYR, Hyr, HcXS⟩ ⟨-, -, Hpm, Hq, ⟨%f1, %h1, Hout⟩, HO⟩
  iapply (wp_runs d (stC d) (todoC d) (doneC rows ids d) (stateC rows ids κ d) (fun k ks Q => wp_stC rows ids κ d k ks Q) all8 _)
  isplitl [HaYS HcYS HaXS HcXS HaXR HcXR]
  · rw [todoC_all]
    isplitl [HaYS HcYS]
    · isplitl [HaYS]; · iexact HaYS
      iexact HcYS
    isplitl [HaXS HcXS]
    · isplitl [HaXS]; · iexact HaXS
      iexact HcXS
    isplitl [HaXR]; · iexact HaXR
    iexact HcXR
  isplitl [Hout HO]
  · unfold stateC
    isplitr; · iexact HR
    isplitl [Hout]
    · iexists f1
      isplitr; · ipureintro; exact outC_of_outB rows ids d f1 h1
      iexact Hout
    iexact HO
  rw [doneC_all]
  unfold stateC
  iintro ⟨⟨HaYS, Hpb⟩, ⟨HaXS, Hxs⟩, ⟨HaXR, Hxr⟩⟩ ⟨-, ⟨%f2, %h2, Hout⟩, HO⟩
  obtain rfl := outC_nil rows ids d f2 h2
  imod (close rows ids (κ (cl d bar)) (cl d bar)) $$ [HaB] with Hb0
  · isplitr; · iapply (inv_bar rows ids κ d); iexact HR
    iexact HaB
  imod (close_own rows ids κ d) $$ [HaL HaYS HaYR HaXS HaXR] with Hown
  · isplitr; · iexact HR
    rw [← closed_list]
    isplitl [HaL]; · iexact HaL
    isplitl [HaYS]; · iexact HaYS
    isplitl [HaYR]; · iexact HaYR
    isplitl [HaXS]; · iexact HaXS
    iexact HaXR
  imodintro
  iapply Hk
  isplitl [Hb0]; · iexact Hb0
  isplitl [Hown]; · iexact Hown
  isplitl [Hrows]; · iexact Hrows
  isplitl [Hids]; · iexact Hids
  isplitl [Hout]; · iexact Hout
  isplitr [HO]
  · isplitl [Hpf]; · iexists _; iexact Hpf
    isplitl [Hpb]; · iapply (join pbM d (pbv rows d)); iexact Hpb
    isplitl [Hyr]; · iapply (join yrM d (pbv rows (yp d))); iexact Hyr
    isplitl [Hpm]; · iexists _; iexact Hpm
    isplitl [Hq]; · iexists _; iexact Hq
    isplitl [Hxs]; · iapply (join xsM d (xsv rows ids d)); iexact Hxs
    iapply (join xrM d (xsv rows ids (xp d))); iexact Hxr
  iexact HO

end Whole

end Cert.KernelIdeal.Pieces

end
-- ==== Proof.Region.lean ====
/- The kernel's region: its proof data (what its two windows hold before and after the one grid point), the
   body's obligation, the opening of the scoped cells on entry, and the record that the launch takes. -/
module

public import proofs.«01_k».proof.Proof.Body
public import proofs.«01_k».proof.Proof.Gen.KernelIdeal.Regions
public import proofs.«01_k».proof.Proof.Gen.KernelIdeal.Launch
public import proofs.«01_k».proof.Proof.Gen.KernelIdeal.Points
public import Idealize.ShloMosaic.Lib.Pipeline.RegionTalk
public import Idealize.ShloMosaic.Lib.Pipeline.Value
public import Idealize.ShloMosaic.Lib.Pipeline.Kit

@[expose] public section

noncomputable section

namespace Cert.KernelIdeal.Pieces

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F]

local notation "𝕄" => MT nD τ sig Unit (Elt F) ℕ UU ℕ

variable (V : Dev nD → Valuation τ sig (Elt F))

/-- The gathered rows and the indices each device enters the region with. -/
def rowsOf (c : Dev nD) : Vec F S256x512 .f32 := V c (Proc.devRef .tc main_v18)
def idsOf (c : Dev nD) : Vec F S256x1 .i32 := V c (Proc.devRef .tc main_v19)
/-- What the region leaves in the result. -/
def resOf (c : Dev nD) : Vec F S512x512 .f32 := outv (rowsOf V) (idsOf V) c
/-- The unscoped buffers after the region: the result replaced. -/
def after (c : Dev nD) : Valuation τ sig (Elt F) := Function.update (V c) (Proc.devRef .tc main_v20) (resOf V c)

theorem after_ne (c : Dev nD) (b : DevRef τ sig) (h : b ≠ Proc.devRef .tc main_v20) : after V c b = V c b :=
  Function.update_of_ne h _ _
theorem after_res (c : Dev nD) : after V c (Proc.devRef .tc main_v20) = resOf V c := Function.update_self _ _ _

/-! ## A whole buffer, as the library and as the body write it -/

theorem whole_pt (c : Dev nD) {sp : Space} {s : Shape} {e : EltTy} (M : Memref sig .tc sp s e) (h : M.view.set = Finset.univ)
    (f : Buf (Elt F) (M.view.loc (c : Thread nD τ))) :
    (whPt M c f : sProp 𝕄) = ((M.view.loc (c : Thread nD τ)) ↦{fullShare} f) := by
  unfold whPt; rw [h]

/-! ## The proof data -/

/-- Of the protocol, what a device keeps until it enters the region: its own cells not yet opened. -/
def held0 (c : Dev nD) : sProp 𝕄 :=
  iprop(∃ κ, ghost (rowsOf V) (idsOf V) κ c ∗ bigSep Finset.univ fun o : Own => openTok ER (cl c (osem o)))
/-- The same with its own cells open. -/
def ready (c : Dev nD) : sProp 𝕄 :=
  iprop((∃ κ, ghost (rowsOf V) (idsOf V) κ c) ∗ opened c ∗ levAts L lv)

def entry (c : Dev nD) : sProp 𝕄 := iprop(ready V c ∗ whPt rowsM c (rowsOf V c) ∗ scratch c ∗ ∃ r, prngReg c r)
def exit (c : Dev nD) : sProp 𝕄 :=
  iprop(semVal (cl c bar) 0 ∗ Pipeline.ownSems0 osem c ∗ whPt rowsM c (rowsOf V c) ∗ scratch c ∗ ∃ r, prngReg c r)

def pdats (_ : Fin 1) (c : Dev nD) : Dat τ (Elt F) Unit ℕ UU ℕ cfg0 c where
  A w := V c (Proc.devRef .tc (Pipeline.arrRef spec0 w))
  after w _ := match w with
    | ⟨0, _⟩ => idsOf V c
    | ⟨1, _⟩ => resOf V c
  Φ t := match t with
    | ⟨0, _⟩ => entry V c
    | ⟨_ + 1, _⟩ => exit V c
  q _ := fullShare
  owed t := match t with
    | ⟨0, _⟩ => O₀ c
    | ⟨_ + 1, _⟩ => 0

theorem share_full (c : Dev nD) (w : Fin cfg0.W) : (pdats V 0 c).share w = fullShare := by
  unfold Dat.share; split <;> rfl

theorem owesAt_in (c : Dev nD) (t : Fin (cfg0.N + 1)) (O : CellTallies nD τ sig Unit) (h : (pdats V 0 c).owed t = O)
    (W : Finset (SemLoc sig × Unit)) : owes (c : Thread nD τ) O W ⊢ ((pdats V 0 c).owesAt () t : sProp 𝕄) := by
  unfold Dat.owesAt Pipeline.owesWithin
  rw [h]
  iintro HO
  iexists W
  isplitr
  · ipureintro; exact fun _ _ => Or.inl trivial
  iexact HO

theorem owesAt_out (c : Dev nD) (t : Fin (cfg0.N + 1)) (O : CellTallies nD τ sig Unit) (h : (pdats V 0 c).owed t = O) :
    ((pdats V 0 c).owesAt () t : sProp 𝕄) ⊢ iprop(∃ W, owes (c : Thread nD τ) O W) := by
  unfold Dat.owesAt Pipeline.owesWithin
  rw [h]
  iintro ⟨%W, -, HO⟩
  iexists W
  iexact HO

/-- Window 0's and window 1's block at the one grid point is its array. -/
theorem emb_ids (j : S256x1.Idx) : ((cfg0.win (0 : Fin 2)).blk t0_0).view.emb j = j :=
  funext fun a => Fin.ext (by
    show 0 * S256x1.size a + 1 * (j a).val = (j a).val
    omega)
theorem emb_res (j : S512x512.Idx) : ((cfg0.win (1 : Fin 2)).blk t0_0).view.emb j = j :=
  funext fun a => Fin.ext (by
    show 0 * S512x512.size a + 1 * (j a).val = (j a).val
    omega)

theorem before_ids (c : Dev nD) (d) : (pdats V 0 c).before (0 : Fin 2) t0_0 d = idsOf V c := by
  unfold Dat.before; rw [if_pos (fetch0_0 t0_0)]
  funext j
  show V c (Proc.devRef .tc main_v19) (((cfg0.win (0 : Fin 2)).blk t0_0).view.emb j) = V c (Proc.devRef .tc main_v19) j
  rw [emb_ids]

theorem arr_res (c : Dev nD) : (pdats V 0 c).arrAt (1 : Fin 2) cfg0.N = resOf V c :=
  (pdats V 0 c).arrAt_eq_of_cover (1 : Fin 2) (resOf V c)
    (fun t _ => by
      rw [fin_N0 t]
      funext j
      show resOf V c j = resOf V c (((cfg0.win (1 : Fin 2)).blk t0_0).view.emb j)
      rw [emb_res])
    (fun i => ⟨t0_0, flush0_1 t0_0, Finset.mem_map.mpr ⟨i, Finset.mem_univ _, emb_res i⟩⟩)

/-- A window's staging buffer at the one grid point: what the pipeline hands the body, as the body takes it. -/
theorem owns_ids (c : Dev nD) (X : Vec F S256x1 .i32) :
    (owns (c : Thread nD τ) (st0_0 t0_0) fullShare X : sProp 𝕄) = whPt idsM c X :=
  (owns_whole (c : Thread nD τ) cc0_stg0_0 fullShare X).trans (whole_pt c idsM (View.set_whole cc0_stg0_0) X).symm
theorem owns_out (c : Dev nD) (X : Vec F S512x512 .f32) :
    (owns (c : Thread nD τ) (st0_1 t0_0) fullShare X : sProp 𝕄) = whPt outM c X :=
  (owns_whole (c : Thread nD τ) cc0_stg1_0 fullShare X).trans (whole_pt c outM (View.set_whole cc0_stg1_0) X).symm

/-- The kernel's scratch buffers are the scoped buffers that no window stages. -/
theorem scratch_eq (c : Dev nD) : (Pipeline.scopedRest spec0 c : sProp 𝕄) = scratch c := by
  rw [scopedRest0_eq]
  unfold scratch
  have h (b : Ref sig .tc) (f : Buf (Elt F) ((c : Thread nD τ).loc b)) :
      (((c : Thread nD τ).loc b) ↦{fullShare} f : sProp 𝕄) = ((c : Thread nD τ).loc b) ↦[(View.whole b).set]{fullShare} f := by
    rw [View.set_whole]
  simp only [h]

/-- The gathered rows' buffer, by itself. -/
abbrev hRows : Finset (DevRef τ sig) := {Proc.devRef .tc main_v18}
theorem held_rows (c : Dev nD) (W : Valuation τ sig (Elt F)) :
    (StableHlo.held (c : Thread nD τ) hRows W : sProp 𝕄) = whPt rowsM c (W (Proc.devRef .tc main_v18)) := by
  unfold StableHlo.held
  rw [bigSep_singleton]
  exact (whole_pt c rowsM (View.set_whole main_v18) (W (Proc.devRef .tc main_v18))).symm

set_option maxRecDepth 65536 in
theorem body_obligation (c : Dev nD) : BodyObligation (pdats V 0 c) (defs₀ (F := F)) 𝒱₀ () Set.univ := fun t => by
  rw [fin_N0 t, bigSep_W0, bigSep_W0]
  rw [show (pdats V 0 c).Φ t0_0.castSucc = entry V c from rfl, show (pdats V 0 c).Φ t0_0.succ = exit V c from rfl]
  have hb (d) : (owns (c : Thread nD τ) (st0_0 t0_0) fullShare ((pdats V 0 c).before (0 : Fin 2) t0_0 d) : sProp 𝕄) = whPt idsM c (idsOf V c) := by
    rw [before_ids]; exact owns_ids c _
  have ho (d) : (owns (c : Thread nD τ) (st0_1 t0_0) fullShare ((pdats V 0 c).before (1 : Fin 2) t0_0 d) : sProp 𝕄) = whPt outM c ((pdats V 0 c).before (1 : Fin 2) t0_0 d) :=
    owns_out c _
  change iprop(entry V c ∗ (pdats V 0 c).owesAt () t0_0.castSucc
      ∗ (∃ d, owns (c : Thread nD τ) (st0_0 t0_0) fullShare ((pdats V 0 c).before (0 : Fin 2) t0_0 d))
      ∗ (∃ d, owns (c : Thread nD τ) (st0_1 t0_0) fullShare ((pdats V 0 c).before (1 : Fin 2) t0_0 d)))
    ⊢ wpB c (Gen.bodyAt0 t0_0) fun _ => iprop(exit V c ∗ (pdats V 0 c).owesAt () t0_0.succ
      ∗ owns (c : Thread nD τ) (st0_0 t0_0) fullShare (idsOf V c) ∗ owns (c : Thread nD τ) (st0_1 t0_0) fullShare (resOf V c))
  rw [body_eq]
  simp only [hb, ho]
  rw [owns_ids, owns_out]
  unfold entry exit ready
  iintro ⟨⟨⟨⟨%κ, Hg⟩, Hop, Hlev⟩, Hrows, Hscr, Hp⟩, HO, ⟨%d0, Hids⟩, ⟨%d1, Hout⟩⟩
  ihave HO' := (owesAt_out V c t0_0.castSucc (O₀ c) rfl) $$ HO
  iapply (wp_staged (rowsOf V) (idsOf V) κ c)
  unfold bodyPre bodyPost
  isplitr [Hp]
  · isplitl [Hlev]; · iexact Hlev
    isplitl [Hg]; · iexact Hg
    isplitl [Hop]; · iexact Hop
    isplitl [Hrows]; · iexact Hrows
    isplitl [Hids]; · iexact Hids
    isplitl [Hout]; · iexists _; iexact Hout
    isplitl [Hscr]; · iexact Hscr
    iexact HO'
  · iintro ⟨Hv, Hos, Hrows, Hids, Hout, Hscr, ⟨%W, HO⟩⟩
    isplitl [Hv Hos Hrows Hscr Hp]
    · isplitl [Hv]; · iexact Hv
      isplitl [Hos]; · iexact Hos
      isplitl [Hrows]; · iexact Hrows
      isplitl [Hscr]; · iexact Hscr
      iexact Hp
    isplitl [HO]; · iapply (owesAt_in V c t0_0.succ 0 rfl W); iexact HO
    isplitl [Hids]; · iexact Hids
    iexact Hout

/-! ## Entering and leaving the region -/

/-- A device opens its own cells with their counters, which the region's entry hands it at zero. -/
theorem open_own (κ : GSem nD τ sig → ℕ) (c : Dev nD) :
    iprop(recs (rowsOf V) (idsOf V) κ ∗ (bigSep Finset.univ fun o : Own => openTok ER (cl c (osem o))) ∗ Pipeline.ownSems0 osem c)
      ⊢ (|={Set.univ}=> opened c : sProp 𝕄) := by
  have h : ∀ o ∈ (Finset.univ : Finset Own), iprop(recs (rowsOf V) (idsOf V) κ ∗ (openTok ER (cl c (osem o)) ∗ semVal (cl c (osem o)) 0))
      ⊢ (|={Set.univ}=> (atPos ER (cl c (osem o)) 0 ∅ 0 ∗ reached ER (cl c (osem o)) 0) : sProp 𝕄) := fun o _ => by
    iintro ⟨#HR, Ho, Hv⟩
    iapply (Rounds.cell_open ER (rd (rowsOf V) (idsOf V)) (g := cl c (osem o)) (Set.mem_univ (κ (cl c (osem o)))))
    isplitr; · iapply (inv_own (rowsOf V) (idsOf V) κ c o); iexact HR
    isplitl [Ho] <;> iassumption
  have hj := Entails.of_eq (bigSep_sep' (Finset.univ : Finset Own) (fun o => (openTok ER (cl c (osem o)) : sProp 𝕄))
    (fun o => semVal (cl c (osem o)) 0)).symm
  unfold opened Pipeline.ownSems0
  iintro ⟨#HR, Ho, Hv⟩
  iapply bigSep_fupd
  iapply (bigSep_with_persistent (R := recs (rowsOf V) (idsOf V) κ) h)
  isplitr; · iexact HR
  iapply hj
  isplitl [Ho] <;> iassumption

theorem open_in (c : Dev nD) : iprop(held0 V c ∗ Pipeline.ownSems0 osem c ∗ levAts L lv) ⊢ (|={Set.univ}=> ready V c : sProp 𝕄) := by
  unfold held0 ready ghost
  iintro ⟨⟨%κ, ⟨#HR, Hg⟩, Ho⟩, Hv, Hlev⟩
  imod (open_own V κ c) $$ [Ho Hv] with Hop
  · isplitr; · iexact HR
    isplitl [Ho] <;> iassumption
  imodintro
  isplitl [Hg]
  · iexists κ
    isplitr; · iexact HR
    iexact Hg
  isplitl [Hop] <;> iassumption

theorem region_in (c : Dev nD) : iprop(Pipeline.scopedRest spec0 c ∗ (∃ r, prngReg c r) ∗ StableHlo.held (c : Thread nD τ) hRows (V c) ∗ ready V c)
    ⊢ (entry V c : sProp 𝕄) := by
  rw [scratch_eq, held_rows]
  unfold entry
  iintro ⟨Hs, Hp, Hh, Hr⟩
  isplitl [Hr]; · iexact Hr
  isplitl [Hh]; · iexact Hh
  isplitl [Hs] <;> iassumption

theorem region_out (c : Dev nD) : (exit V c : sProp 𝕄)
    ⊢ iprop(Pipeline.scopedRest spec0 c ∗ (∃ r, prngReg c r) ∗ StableHlo.held (c : Thread nD τ) hRows (after V c) ∗ Pipeline.ownSems0 osem c
      ∗ semVal (cl c bar) 0) := by
  rw [scratch_eq, held_rows, after_ne V c _ (by decide)]
  unfold exit
  iintro ⟨Hv, Hos, Hh, Hs, Hp⟩
  isplitl [Hs]; · iexact Hs
  isplitl [Hp]; · iexact Hp
  isplitl [Hh]; · iexact Hh
  isplitl [Hos] <;> iassumption

/-- Everything owed lies above the staging semaphores, which are at level 0. -/
theorem owed_above (c : Dev nD) (t : Fin (cfg0.N + 1)) (g : GSem nD τ sig) (u : Unit) (h : 0 < (pdats V 0 c).owed t g u) :
    u ∈ L g ∧ 0 < lv g u := by
  have hcl : ∀ e sm, 0 < lv (cl e sm) () → u ∈ L (cl e sm) ∧ 0 < lv (cl e sm) u := fun e sm hp =>
    ⟨by rw [L_tc]; exact Finset.mem_singleton_self _, hp⟩
  rcases t with ⟨_ | _, ht⟩
  · have h : 0 < oweY c all8 g u + tallyAt (cl (xp c) bar) () 1 g u + tallyAt (cl (yp c) bar) () 1 g u := h
    rcases Nat.eq_zero_or_pos (tallyAt (cl (yp c) bar) () 1 g u) with h1 | h1
    · rcases Nat.eq_zero_or_pos (tallyAt (cl (xp c) bar) () 1 g u) with h2 | h2
      · rw [h1, h2] at h
        obtain ⟨⟨e, sm, rfl⟩, hl⟩ := oweY_above c all8 g u h
        exact hcl e sm (Nat.lt_of_le_of_lt (Nat.zero_le 1) hl)
      · rw [tallyAt_apply] at h2
        split at h2
        · next hg => rw [hg.1]; exact hcl _ _ Nat.zero_lt_one
        · exact absurd h2 (Nat.lt_irrefl 0)
    · rw [tallyAt_apply] at h1
      split at h1
      · next hg => rw [hg.1]; exact hcl _ _ Nat.zero_lt_one
      · exact absurd h1 (Nat.lt_irrefl 0)
  · exact absurd h (Nat.lt_irrefl 0)

/-- The other unscoped buffers: all but the windows' two arrays. -/
abbrev others : Finset (DevRef τ sig) := Pipeline.ucRefs τ sig \ Pipeline.arrRefs (τ := τ) spec0

theorem rows_others : hRows ⊆ others :=
  Finset.singleton_subset_iff.mpr (Finset.mem_sdiff.mpr
    ⟨Finset.mem_filter.mpr ⟨StableHlo.devRef_mem_tcRefs main_v18, by decide⟩, by decide⟩)
theorem res_arr : Proc.devRef .tc main_v20 ∈ Pipeline.arrRefs (τ := τ) spec0 := by decide

theorem staging_low : ∀ (w : Fin 2) (s : Fin (spec0 w).nbuf), roleLev (role (.dma ((spec0 w).sem s))) ≤ 0 := by decide

theorem kit0 : Pipeline.PLaunchFacts (nD := nD) (τ := τ) (pcfgs (F := F)) 0 := launch0.toP

set_option backward.isDefEq.respectTransparency.types false in
/-- The region's record: entered with the protocol's state unopened, left with the barrier's counter at zero. -/
def reg : Pipeline.RegionSeg (pcfgs (F := F)) adm (pdats V) () defs₀ 𝒱₀ L lv 0 :=
  Pipeline.RegionSeg.ofTalk (pcfgs (F := F)) adm (pdats V) () defs₀ 𝒱₀ L lv 0 osem (by decide : Pipeline.OwnSemFacts spec0 osem)
    hRows others rows_others kit0 rfl (fun c => (body_obligation V c).loose)
    (fun _ => 0) O₀ (fun c => (zero_add (O₀ c)).symm) (fun _ => rfl) (fun _ => rfl) (share_full V)
    V (after V)
    (fun c b hb => after_ne V c b fun h => (Finset.mem_sdiff.mp (Finset.mem_sdiff.mp hb).1).2 (h ▸ res_arr))
    (held0 V) (fun c => semVal (cl c bar) 0) (ready V) (fun c => semVal (cl c bar) 0) (open_in V) (region_in V) (region_out V)
    (fun c => by iintro H; imodintro; iexact H)
    (fun _ => 0)
    ⟨fun c w s => by rw [L_tc]; exact Finset.mem_singleton_self _, fun c w s => staging_low w s,
      fun c t g u h => owed_above V c t g u h⟩
    (fun _ => iprop(emp))
    (fun _ _ => rfl)
    (fun c w => by
      fin_cases w
      · exact ((pdats V 0 c).arrAt_in 0 rfl _).trans (after_ne V c _ (by decide)).symm
      · exact (arr_res V c).trans (after_res V c).symm)

end Cert.KernelIdeal.Pieces

end
-- ==== Proof.Launch.lean ====
/- The launch: every cell's invariant allocated (a kernel's own cells closed until its region is entered), the
   duties' tokens and the launch credits dealt to the devices that use them, and the run of the whole program. -/
module

public import proofs.«01_k».proof.Proof.Region
public import Idealize.ShloMosaic.Lib.Pipeline.Regions
public import Idealize.ShloMosaic.Lib.Quiescent
public import Idealize.ShloMosaic.Lib.StableHlo
public import Idealize.ShloMosaic.Harness.Basic

@[expose] public section

noncomputable section

namespace Cert.KernelIdeal.Pieces

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Smoke (bigSep_pair bigSep_unpair)
open Cert.KernelIdeal.Gen

variable {F : FTy → Type} [FloatOps F]

local notation "𝕄" => MT nD τ sig Unit (Elt F) ℕ UU ℕ

/-! ## The cells and the tokens -/

theorem osem_inj : Function.Injective osem := by decide +kernel
theorem osem_ne_bar : ∀ o : Own, osem o ≠ bar := by decide +kernel

def barEmb : Dev nD ↪ GSem nD τ sig := ⟨fun c => cl c bar, fun _ _ h => congrArg (fun g : GSem nD τ sig => g.1.1) h⟩
def ownEmb : Dev nD × Own ↪ GSem nD τ sig :=
  ⟨fun p => cl p.1 (osem p.2), fun _ _ h =>
    Prod.ext (congrArg (fun g : GSem nD τ sig => g.1.1) h) (osem_inj (congrArg Prod.snd h))⟩

abbrev barCells : Finset (GSem nD τ sig) := Finset.univ.map barEmb
abbrev ownCells : Finset (GSem nD τ sig) := Finset.univ.map ownEmb

def barTokEmb : Dev nD × Bool ↪ GSem nD τ sig × ℕ × Bool :=
  ⟨fun p => (cl p.1 bar, 0, p.2), fun _ _ h =>
    Prod.ext (congrArg (fun t : GSem nD τ sig × ℕ × Bool => t.1.1.1) h) (congrArg (fun t : GSem nD τ sig × ℕ × Bool => t.2.2) h)⟩
def ownTokEmb : Dev nD × Own ↪ GSem nD τ sig × ℕ × Bool :=
  ⟨fun p => (cl p.1 (osem p.2), 0, false), fun _ _ h => ownEmb.injective (congrArg Prod.fst h)⟩

abbrev barToks : Finset (GSem nD τ sig × ℕ × Bool) := Finset.univ.map barTokEmb
abbrev ownToks : Finset (GSem nD τ sig × ℕ × Bool) := Finset.univ.map ownTokEmb

theorem disjoint_cells : Disjoint (barCells : Finset (GSem nD τ sig)) ownCells := by
  rw [Finset.disjoint_left]
  rintro g h₁ h₂
  obtain ⟨c, -, rfl⟩ := Finset.mem_map.mp h₁
  obtain ⟨p, -, h⟩ := Finset.mem_map.mp h₂
  exact osem_ne_bar p.2 (congrArg Prod.snd h)
theorem disjoint_toks : Disjoint (barToks : Finset (GSem nD τ sig × ℕ × Bool)) ownToks := by
  rw [Finset.disjoint_left]
  rintro g h₁ h₂
  obtain ⟨c, -, rfl⟩ := Finset.mem_map.mp h₁
  obtain ⟨p, -, h⟩ := Finset.mem_map.mp h₂
  exact osem_ne_bar p.2 (congrArg (fun t : GSem nD τ sig × ℕ × Bool => t.1.2) h)

abbrev uProto : UB := launchOf barCells ownCells (barToks ∪ ownToks)
def u₀ : UU := (initOf (Pipeline.cells cfgs cellOf_inj) (Pipeline.launchToks cfgs cellOf_inj), uProto)

/-- The whole of a resource on device 0, nothing on the others: the launch spends it once, over all devices. -/
def onZero (X : sProp 𝕄) (c : Dev nD) : sProp 𝕄 := if c = 0 then X else iprop(emp)
omit [FloatOps F] in
theorem bigSep_onZero (X : sProp 𝕄) : bigSep Finset.univ (onZero X) = X := by
  rw [bigSep_univ_at _ (0 : Dev nD), bigSep_congr (s := Finset.univ.erase (0 : Dev nD)) (Ψ := fun _ => (BI.emp : sProp 𝕄))
      fun c hc => by unfold onZero; rw [if_neg (Finset.ne_of_mem_erase hc)]; rfl, BI.bigSep_emp_const]
  unfold onZero; rw [if_pos rfl]
  exact BI.equiv_iff.mp sep_emp

def G : Dev nD → sProp 𝕄 := onZero (BI.own (ER uProto))

/-! ## The tokens, each to the device whose duty it is -/

omit [FloatOps F] in
theorem toks_dealt : (bigSep (barToks ∪ ownToks) fun x => (dutyTok ER x.1 x.2.1 x.2.2 : sProp 𝕄)) ⊢ bigSep Finset.univ fun d : Dev nD => toks d := by
  have hb : (bigSep barToks fun x => (dutyTok ER x.1 x.2.1 x.2.2 : sProp 𝕄))
      = iprop((bigSep Finset.univ fun d : Dev nD => dutyTok ER (cl d bar) 0 false) ∗ bigSep Finset.univ fun d : Dev nD => dutyTok ER (cl d bar) 0 true) := by
    rw [← bigSep_sep', bigSep_map, bigSep_univ_prod]
    exact bigSep_congr fun d _ => bigSep_univ_eq_bigSepL [false, true] (by decide) (by decide) _
  have ho : (bigSep ownToks fun x => (dutyTok ER x.1 x.2.1 x.2.2 : sProp 𝕄))
      = bigSep Finset.univ fun d : Dev nD => iprop(dutyTok ER (cl d ld) 0 false
        ∗ (bigSep Finset.univ fun k : Fin 8 => dutyTok ER (cl d (ys k)) 0 false)
        ∗ (bigSep Finset.univ fun k : Fin 8 => dutyTok ER (cl d (yr k)) 0 false)
        ∗ (bigSep Finset.univ fun k : Fin 8 => dutyTok ER (cl d (xs k)) 0 false)
        ∗ (bigSep Finset.univ fun k : Fin 8 => dutyTok ER (cl d (xr k)) 0 false)) := by
    rw [bigSep_map, bigSep_univ_prod]
    exact bigSep_congr fun d _ => own_list fun o => (dutyTok ER (cl d (osem o)) 0 false : sProp 𝕄)
  rw [bigSep_union disjoint_toks]
  show iprop((bigSep barToks fun x => (dutyTok ER x.1 x.2.1 x.2.2 : sProp 𝕄)) ∗ bigSep ownToks fun x => (dutyTok ER x.1 x.2.1 x.2.2 : sProp 𝕄)) ⊢ _
  rw [hb, ho]
  unfold toks
  simp only [bigSep_sep']
  rw [bigSep_univ_equiv yRing (fun d : Dev nD => (dutyTok ER (cl d bar) 0 false : sProp 𝕄)),
    bigSep_univ_equiv xRing (fun d : Dev nD => (dutyTok ER (cl d bar) 0 true : sProp 𝕄)),
    bigSep_univ_equiv yRing (fun d : Dev nD => (bigSep Finset.univ fun k : Fin 8 => dutyTok ER (cl d (yr k)) 0 false : sProp 𝕄)),
    bigSep_univ_equiv xRing (fun d : Dev nD => (bigSep Finset.univ fun k : Fin 8 => dutyTok ER (cl d (xr k)) 0 false : sProp 𝕄))]
  show iprop(((bigSep Finset.univ fun d : Dev nD => dutyTok ER (cl (yp d) bar) 0 false) ∗ bigSep Finset.univ fun d : Dev nD => dutyTok ER (cl (xp d) bar) 0 true)
    ∗ (bigSep Finset.univ fun d : Dev nD => dutyTok ER (cl d ld) 0 false)
    ∗ (bigSep Finset.univ fun d : Dev nD => bigSep Finset.univ fun k : Fin 8 => dutyTok ER (cl d (ys k)) 0 false)
    ∗ (bigSep Finset.univ fun d : Dev nD => bigSep Finset.univ fun k : Fin 8 => dutyTok ER (cl (yp d) (yr k)) 0 false)
    ∗ (bigSep Finset.univ fun d : Dev nD => bigSep Finset.univ fun k : Fin 8 => dutyTok ER (cl d (xs k)) 0 false)
    ∗ (bigSep Finset.univ fun d : Dev nD => bigSep Finset.univ fun k : Fin 8 => dutyTok ER (cl (xp d) (xr k)) 0 false)) ⊢ _
  iintro ⟨⟨H1, H2⟩, H3, H4, H5, H6, H7⟩
  isplitl [H1]; · iexact H1
  isplitl [H2]; · iexact H2
  isplitl [H3]; · iexact H3
  isplitl [H4]; · iexact H4
  isplitl [H5]; · iexact H5
  isplitl [H6] <;> iassumption

/-! ## The launch credits -/

theorem owL_other (f : Fin 8 → SemLoc sig) (e c : Dev nD) (ks : List (Fin 8)) (sm : SemLoc sig) (h : ∀ k, sm ≠ f k) :
    owL f e ks (cl c sm) () = 0 :=
  Nat.eq_zero_of_not_pos fun hp => by
    obtain ⟨k, hk⟩ := owL_pos f e ks _ _ hp
    exact h k (congrArg Prod.snd hk)

theorem owL_at (f : Fin 8 → SemLoc sig) (hf : Function.Injective f) (e c : Dev nD) (k : Fin 8) (ks : List (Fin 8)) :
    owL f e ks (cl c (f k)) () = if c = e then ks.count k * NP else 0 := by
  induction ks with
  | nil => show 0 = _; simp
  | cons j ks ih =>
    show owL f e ks (cl c (f k)) () + tallyAt (cl e (f j)) () NP (cl c (f k)) () = _
    rw [ih, tallyAt_apply]
    by_cases hc : c = e
    · subst hc
      rw [if_pos rfl, if_pos rfl]
      by_cases hj : j = k
      · subst hj
        rw [if_pos ⟨rfl, rfl⟩, List.count_cons_self, Nat.add_mul, Nat.one_mul]
      · rw [if_neg fun h => hj (hf (congrArg Prod.snd h.1)).symm, List.count_cons_of_ne hj, Nat.add_zero]
    · rw [if_neg hc, if_neg hc, if_neg fun h => hc (congrArg (fun g : GSem nD τ sig => g.1.1) h.1)]

theorem yr_inj : Function.Injective yr := fun i j h => by
  have := congrArg role h; rw [role_yr, role_yr] at this; exact Role.yr.inj this
theorem xr_inj : Function.Injective xr := fun i j h => by
  have := congrArg role h; rw [role_xr, role_xr] at this; exact Role.xr.inj this
theorem yr_ne_xr (i j : Fin 8) : yr i ≠ xr j := fun h => by
  have := congrArg role h; rw [role_yr, role_xr] at this; exact Role.noConfusion this
theorem count_all (k : Fin 8) : all8.count k = 1 := by revert k; decide

theorem eq_yp (c d : Dev nD) : c = yp d ↔ d = yp c := ⟨fun h => by rw [h, yp_yp], fun h => by rw [h, yp_yp]⟩
theorem eq_xp (c d : Dev nD) : c = xp d ↔ d = xp c := ⟨fun h => by rw [h, xp_xp], fun h => by rw [h, xp_xp]⟩

theorem unit_bar (c e : Dev nD) : (tallyAt (cl e bar) () 1 : CellTallies nD τ sig Unit) (cl c bar) () = if c = e then 1 else 0 := by
  rw [tallyAt_apply]
  by_cases h : c = e
  · subst h; rw [if_pos ⟨rfl, rfl⟩, if_pos rfl]
  · rw [if_neg fun h' => h (congrArg (fun g : GSem nD τ sig => g.1.1) h'.1), if_neg h]
theorem unit_other (c e : Dev nD) (s : DmaSem sig) : (tallyAt (cl e bar) () 1 : CellTallies nD τ sig Unit) (cl c (.dma s)) () = 0 := by
  rw [tallyAt_apply, if_neg fun h => by cases congrArg Prod.snd h.1]

/-- What device `d` owes at launch, cell by cell. -/
theorem owed_eq (d : Dev nD) (g : GSem nD τ sig) : O₀ d g ()
    = ((owL xr (xp d) all8 g () + owL yr (yp d) all8 g ()) + tallyAt (cl (xp d) bar) () 1 g ()) + tallyAt (cl (yp d) bar) () 1 g () := rfl
theorem owed_bar (d c : Dev nD) : O₀ d (cl c bar) () = (if d = xp c then 1 else 0) + (if d = yp c then 1 else 0) := by
  rw [owed_eq, owL_other xr _ _ _ _ (fun k h => by cases h), owL_other yr _ _ _ _ (fun k h => by cases h), unit_bar, unit_bar,
    if_congr (eq_xp c d) rfl rfl, if_congr (eq_yp c d) rfl rfl, Nat.zero_add]
theorem owed_yr (d c : Dev nD) (k : Fin 8) : O₀ d (cl c (yr k)) () = if d = yp c then NP else 0 := by
  rw [owed_eq, owL_other xr _ _ _ _ (fun j => yr_ne_xr k j), owL_at yr yr_inj, count_all, Nat.one_mul, unit_other, unit_other,
    if_congr (eq_yp c d) rfl rfl, Nat.zero_add, Nat.add_zero]
theorem owed_xr (d c : Dev nD) (k : Fin 8) : O₀ d (cl c (xr k)) () = if d = xp c then NP else 0 := by
  rw [owed_eq, owL_other yr _ _ _ _ (fun j h => yr_ne_xr j k h.symm), owL_at xr xr_inj, count_all, Nat.one_mul, unit_other, unit_other,
    if_congr (eq_xp c d) rfl rfl, Nat.add_zero]

theorem launch_at (g : GSem nD τ sig) (n : ℕ) (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

theorem sum_at (e : Dev nD) (n : ℕ) : ∑ d : Dev nD, (if d = e then n else 0) = n := by
  rw [Finset.sum_ite_eq' Finset.univ e fun _ => n, if_pos (Finset.mem_univ _)]

theorem launch_bar (c : Dev nD) : tallyOn (cl c bar) (launchCredit (Pipeline.owing O₀) 0 (cl c bar)) = (tallyAt (cl c bar) () 2 : CellTallies nD τ sig Unit) :=
  launch_at _ _ (by rw [Finset.sum_congr rfl fun d _ => owed_bar d c, Finset.sum_add_distrib, sum_at, sum_at])
theorem launch_yr (c : Dev nD) (k : Fin 8) :
    tallyOn (cl c (yr k)) (launchCredit (Pipeline.owing O₀) 0 (cl c (yr k))) = (tallyAt (cl c (yr k)) () NP : CellTallies nD τ sig Unit) :=
  launch_at _ _ (by rw [Finset.sum_congr rfl fun d _ => owed_yr d c k, sum_at])
theorem launch_xr (c : Dev nD) (k : Fin 8) :
    tallyOn (cl c (xr k)) (launchCredit (Pipeline.owing O₀) 0 (cl c (xr k))) = (tallyAt (cl c (xr k)) () NP : CellTallies nD τ sig Unit) :=
  launch_at _ _ (by rw [Finset.sum_congr rfl fun d _ => owed_xr d c k, sum_at])

omit [FloatOps F] in
theorem creds_dealt (c : Dev nD) : (Pipeline.launchCred O₀ c : sProp 𝕄) ⊢ creds c := by
  have hsub : Finset.univ.map ⟨osem, osem_inj⟩ ⊆ (Finset.univ : Finset (SemLoc sig)).erase bar := fun sm h => by
    obtain ⟨o, -, rfl⟩ := Finset.mem_map.mp h
    exact Finset.mem_erase.mpr ⟨osem_ne_bar o, Finset.mem_univ _⟩
  have hrest : (bigSep ((Finset.univ : Finset (SemLoc sig)).erase bar) fun sm : SemLoc sig => (cred (tallyOn (cl c sm) (launchCredit (Pipeline.owing O₀) 0 (cl c sm))) : sProp 𝕄))
      ⊢ bigSep (Finset.univ.map ⟨osem, osem_inj⟩) fun sm : SemLoc sig => (cred (tallyOn (cl c sm) (launchCredit (Pipeline.owing O₀) 0 (cl c sm))) : sProp 𝕄) :=
    bigSep_subset hsub (Φ := fun sm : SemLoc sig => (cred (tallyOn (cl c sm) (launchCredit (Pipeline.owing O₀) 0 (cl c sm))) : sProp 𝕄))
  have hy : (bigSep Finset.univ fun k : Fin 8 => (cred (tallyOn (cl c (osem (some (1, k)))) (launchCredit (Pipeline.owing O₀) 0 (cl c (osem (some (1, k)))))) : sProp 𝕄))
      ⊢ bigSep Finset.univ fun k : Fin 8 => cred (tallyAt (cl c (yr k)) () NP) :=
    Entails.of_eq (bigSep_congr fun k _ => congrArg (fun t => (cred t : sProp 𝕄)) (launch_yr c k))
  have hx : (bigSep Finset.univ fun k : Fin 8 => (cred (tallyOn (cl c (osem (some (3, k)))) (launchCredit (Pipeline.owing O₀) 0 (cl c (osem (some (3, k)))))) : sProp 𝕄))
      ⊢ bigSep Finset.univ fun k : Fin 8 => cred (tallyAt (cl c (xr k)) () NP) :=
    Entails.of_eq (bigSep_congr fun k _ => congrArg (fun t => (cred t : sProp 𝕄)) (launch_xr c k))
  unfold Pipeline.launchCred
  rw [bigSep_univ_at _ bar, launch_bar]
  iintro ⟨Hb, H⟩
  ihave H' := hrest $$ H
  ihave H2 := (Entails.of_eq (bigSep_map (s := Finset.univ) (⟨osem, osem_inj⟩ : Own ↪ SemLoc sig)
    (Φ := fun sm : SemLoc sig => (cred (tallyOn (cl c sm) (launchCredit (Pipeline.owing O₀) 0 (cl c sm))) : sProp 𝕄)))) $$ H'
  ihave H3 := (Entails.of_eq (own_list fun o : Own => (cred (tallyOn (cl c (osem o)) (launchCredit (Pipeline.owing O₀) 0 (cl c (osem o)))) : sProp 𝕄))) $$ H2
  icases H3 with ⟨-, -, Hy, -, Hx⟩
  unfold creds
  isplitl [Hb]; · iexact Hb
  isplitl [Hy]
  · iapply hy $$ Hy
  · iapply hx $$ Hx

/-! ## What each device holds through the program -/

section Run

variable (m : (ℓ : Loc nD τ sig) → Buf (Elt F) ℓ) (ρ : Dev nD → PrngReg)

/-- What a device keeps beside its buffers up to the region, and after it. -/
def kept0 (c : Dev nD) : sProp 𝕄 := iprop(held0 (V1 m) c ∗ (∃ r, prngReg c r) ∗ ∃ W, owes (c : Thread nD τ) (O₀ c) W)
def kept1 (c : Dev nD) : sProp 𝕄 := iprop(semVal (cl c bar) 0 ∗ ∃ W, owes (c : Thread nD τ) (0 : CellTallies nD τ sig Unit) W)
def kept : Fin 2 → Dev nD → sProp 𝕄 := fun | 0 => kept0 m | 1 => kept1

abbrev ucs : Finset (DevRef τ sig) := Pipeline.ucRefs τ sig

theorem arr_uc : Pipeline.arrRefs (τ := τ) spec0 ⊆ ucs := by
  intro b hb
  obtain ⟨r, hr, rfl⟩ := Finset.mem_map.mp hb
  obtain ⟨w, -, rfl⟩ := Finset.mem_image.mp hr
  refine Finset.mem_filter.mpr ⟨StableHlo.devRef_mem_tcRefs _, ?_⟩
  revert w; decide

theorem region_pre (c : Dev nD) : iprop(StableHlo.held (c : Thread nD τ) ucs (V1 m c) ∗ kept0 m c) ⊢ (reg (V1 m)).pre c := by
  show _ ⊢ iprop(StableHlo.held (c.tc : Thread nD τ) (Pipeline.arrRefs (τ := τ) spec0) (V1 m c) ∗ (∃ r, prngReg c r)
    ∗ (StableHlo.held (c.tc : Thread nD τ) others (V1 m c) ∗ emp) ∗ held0 (V1 m) c ∗ ∃ Wd, owes (c : Thread nD τ) (0 + O₀ c) Wd)
  rw [StableHlo.held_sub_split (c : Thread nD τ) arr_uc (V1 m c), zero_add]
  unfold kept0
  iintro ⟨⟨Ha, Ho⟩, Hg, Hp, HO⟩
  isplitl [Ha]; · iexact Ha
  isplitl [Hp]; · iexact Hp
  isplitl [Ho]
  · isplitl [Ho]; · iexact Ho
    iempintro
  isplitl [Hg] <;> iassumption

theorem region_post (c : Dev nD) : (reg (V1 m)).post c ⊢ iprop(StableHlo.held (c : Thread nD τ) ucs (after (V1 m) c) ∗ kept1 c) := by
  show iprop(StableHlo.held (c.tc : Thread nD τ) (Pipeline.arrRefs (τ := τ) spec0) (after (V1 m) c) ∗ (∃ r, prngReg c r)
    ∗ (StableHlo.held (c.tc : Thread nD τ) others (after (V1 m) c) ∗ emp) ∗ semVal (cl c bar) 0
    ∗ ∃ Wd, owes (c : Thread nD τ) (0 : CellTallies nD τ sig Unit) Wd) ⊢ _
  rw [StableHlo.held_sub_split (c : Thread nD τ) arr_uc (after (V1 m) c)]
  unfold kept1
  iintro ⟨Ha, -, ⟨Ho, -⟩, Hv, HO⟩
  isplitl [Ha Ho]
  · isplitl [Ha] <;> iassumption
  isplitl [Hv] <;> iassumption

/-! ## The launch step -/

omit [FloatOps F] in
theorem unscopedSems_eq (c : Dev nD) : (unscopedSems0 c : sProp 𝕄) = semVal (cl c bar) 0 := by
  unfold unscopedSems0
  rw [show (Finset.univ.filter fun sm : SemLoc sig => ¬ sm.isScoped .tc) = {bar} from by decide +kernel, BI.bigSep_singleton]

/-- What every device may consult: the cells' invariants, and that the partners' barriers are at round 0. -/
def shared (κ : GSem nD τ sig → ℕ) : sProp 𝕄 :=
  iprop(recs (rowsOf (V1 m)) (idsOf (V1 m)) κ ∗ bigSep Finset.univ fun d : Dev nD => reached ER (cl d bar) 0)
instance shared_persistent (κ : GSem nD τ sig → ℕ) : BI.Persistent (shared m κ) := by unfold shared; infer_instance

/-- What one device takes of the launch for itself. -/
def mine (c : Dev nD) : sProp 𝕄 :=
  iprop(atPos ER (cl c bar) 0 ∅ 0 ∗ (bigSep Finset.univ fun o : Own => openTok ER (cl c (osem o))) ∗ toks c
    ∗ creds c ∗ (∃ r, prngReg c r) ∗ ∃ W, owes (c : Thread nD τ) (O₀ c) W)

omit [FloatOps F] in
theorem reached_bar (c : Dev nD) : (bigSep Finset.univ fun d : Dev nD => (reached ER (cl d bar) 0 : sProp 𝕄)) ⊢ reached ER (cl c bar) 0 :=
  bigSep_elim (Finset.mem_univ c)

theorem kept0_intro (κ : GSem nD τ sig → ℕ) (c : Dev nD) : iprop(shared m κ ∗ mine c) ⊢ kept0 m c := by
  unfold shared mine kept0 held0 ghost
  iintro ⟨⟨#HI, #HR⟩, Hat, Hop, Htok, Hcr, Hp, HO⟩
  isplitr [Hp HO]
  · iexists κ
    isplitr [Hop]
    · isplitr; · iexact HI
      isplitl [Hat]; · iexact Hat
      isplitr; · iapply (reached_bar (F := F) (yp c)); iexact HR
      isplitr; · iapply (reached_bar (F := F) (xp c)); iexact HR
      isplitl [Htok] <;> iassumption
    · iexact Hop
  isplitl [Hp] <;> iassumption

theorem start_all :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ fun c : Dev nD => iprop(StableHlo.held (c : Thread nD τ) ucs (V0 m c) ∗ kept0 m c) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(StableHlo.held (c : Thread nD τ) ucs (V0 m c) ∗ (creds c ∗ (∃ r, prngReg c r) ∗ ∃ W, owes (c : Thread nD τ) (O₀ c) W)
        ∗ semVal (cl c bar) 0 ∗ G c) : sProp 𝕄) := by
    rw [show unscopedBufs c (fun b => m ((c : Thread nD τ).loc b)) = StableHlo.held (c : Thread nD τ) ucs (V0 m c) from
      Pipeline.unscopedBufs_held c (V0 m c), unscopedSems_eq]
    iintro ⟨Hh, Hus, HO, Hcr, Hp, HG⟩
    ihave Hc := (creds_dealt (F := F) c) $$ Hcr
    isplitl [Hh]; · iexact Hh
    isplitl [HO Hc Hp]
    · isplitl [Hc]; · iexact Hc
      isplitl [Hp]; · iexists (ρ c); iexact Hp
      iexists ∅; iexact HO
    isplitl [Hus] <;> iassumption
  have hv : bigSep Finset.univ (fun c : Dev nD => (semVal (cl c bar) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (cl c bar) 0 ∅ 0 : sProp 𝕄)) :=
    Entails.of_eq (bigSep_map (s := Finset.univ) barEmb (Φ := fun g : GSem nD τ sig => (atPos ER g 0 ∅ 0 : sProp 𝕄)))
  have hr : bigSep barCells (fun g => (reached ER g 0 : sProp 𝕄)) ⊢ bigSep Finset.univ (fun c : Dev nD => (reached ER (cl c bar) 0 : sProp 𝕄)) :=
    Entails.of_eq (bigSep_map (s := Finset.univ) barEmb (Φ := fun g : GSem nD τ sig => (reached ER g 0 : sProp 𝕄)))
  have hopen : bigSep ownCells (fun g => (openTok ER g : sProp 𝕄))
      ⊢ bigSep Finset.univ (fun c : Dev nD => bigSep Finset.univ fun o : Own => (openTok ER (cl c (osem o)) : sProp 𝕄)) :=
    Entails.of_eq (by rw [bigSep_map, bigSep_univ_prod]; rfl)
  have hinv (κ : GSem nD τ sig → ℕ) : (bigSep (barCells ∪ ownCells) fun g => (cellInv ER (rd (rowsOf (V1 m)) (idsOf (V1 m))) (κ g) g : sProp 𝕄))
      ⊢ recs (rowsOf (V1 m)) (idsOf (V1 m)) κ := by
    rw [bigSep_union disjoint_cells]
    exact Entails.of_eq (congrArg₂ (fun X Y : sProp 𝕄 => iprop(X ∗ Y)) (bigSep_map (s := Finset.univ) barEmb) (bigSep_map (s := Finset.univ) ownEmb))
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(StableHlo.held (c : Thread nD τ) ucs (V0 m c)
        ∗ (creds c ∗ (∃ r, prngReg c r) ∗ ∃ W, owes (c : Thread nD τ) (O₀ c) W) ∗ semVal (cl c bar) 0 ∗ G c) : sProp 𝕄) from
    bigSep_mono fun c _ => hcore c) $$ H
  ihave H2 := bigSep_unpair $$ H'; icases H2 with ⟨Hh, H3⟩
  ihave H4 := bigSep_unpair $$ H3; icases H4 with ⟨Hm, H5⟩
  ihave H6 := bigSep_unpair $$ H5; icases H6 with ⟨Hv, HG⟩
  ihave Hu := (show bigSep Finset.univ (G (F := F)) ⊢ BI.own (ER uProto) from Entails.of_eq (bigSep_onZero (F := F) (BI.own (ER uProto)))) $$ HG
  imod (Rounds.fund_launch ER (rd (rowsOf (V1 m)) (idsOf (V1 m))) disjoint_cells (fun g _ h => h) (barToks ∪ ownToks)) $$ [Hv Hu]
    with ⟨%κ, -, #Hinv, #Hr, Hat, Hopen, Htok⟩
  · isplitl [Hv]
    · iapply hv $$ Hv
    · iexact Hu
  imodintro
  iapply bigSep_pair
  isplitl [Hh]; · iexact Hh
  iapply (bigSep_with_persistent (R := shared m κ) (Φ := fun c => mine c) fun c _ => kept0_intro m κ c)
  isplitr
  · unfold shared
    isplitr; · iapply (hinv κ); iexact Hinv
    iapply hr; iexact Hr
  unfold mine
  iapply bigSep_pair; isplitl [Hat]; · iapply hat $$ Hat
  iapply bigSep_pair; isplitl [Hopen]; · iapply hopen $$ Hopen
  iapply bigSep_pair; isplitl [Htok]; · iapply (toks_dealt (F := F)) $$ Htok
  iexact Hm

/-! ## The run -/

theorem unscoped_bar : ∀ sm : SemLoc sig, sm.isScoped .tc = false → sm = bar := by decide +kernel

abbrev final (c : Dev nD) : sProp 𝕄 := iprop(StableHlo.held (c : Thread nD τ) ucs (after (V1 m) c) ∗ semVal (cl c bar) 0)

/-- What a device's memory reads at the end, with its barrier's counter. -/
def atEnd (c : Dev nD) (s : MemSt nD τ sig (Elt F)) : Prop :=
  (∀ b ∈ ucs, s.mem (c, b) = after (V1 m) c b) ∧ s.sem (cl c bar) = 0

set_option backward.isDefEq.respectTransparency.types false in
/-- From any memory with zero counters, every weakly fair execution of the program on the sixteen devices terminates;
    every final state has both arguments unchanged on every device, the result at `resOf`, and every counter at zero. -/
theorem run_main : θ_run defs (onTc (τ := τ) (main (F := F))) ⟨m, fun _ => 0, ρ⟩ (fun r => (∀ c : Dev nD,
      r.2.mem ((c : Thread nD τ).loc main_v20) = resOf (V1 m) c
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  Pipeline.θ_run_regions_kit_dev_sems (pcfgs (F := F)) adm (pdats (V1 m)) () cellOf_inj EP defs₀ 𝒱₀ L lv m ρ main
    (segs m 𝒱₀ L lv (kept m) () (pdats (V1 m)) (reg (V1 m)))
    (fun c Q => by
      rewrite [main_chain c, Pipeline.Seg.run_eq_chain,
        show (segs m 𝒱₀ L lv (kept m) () (pdats (V1 m)) (reg (V1 m)) c).map Pipeline.Seg.prog = [
          StableHlo.seq (hostOps0 c),
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide)
    (O₀ := O₀) (hL := L_of_ne) (G := G) (u₀ := u₀)
    (hu₀ := by
      unfold u₀ G
      iintro Hu
      ihave H := (ownU_pair _ _) $$ Hu
      icases H with ⟨HP, HX⟩
      imodintro
      isplitl [HP]; · iexact HP
      rw [bigSep_onZero]; iexact HX)
    (T₀ := fun c => iprop(StableHlo.held (c : Thread nD τ) ucs (V0 m c) ∗ kept0 m c))
    (Tₙ := final m)
    (hch := fun c => ⟨.rfl, region_pre m c, (region_post m c).trans (by
      unfold kept1 final
      iintro ⟨Hh, Hv, HO⟩
      isplitr [HO]
      · isplitl [Hh] <;> iassumption
      · iexact HO)⟩)
    (hinit := start_all m ρ)
    (QY := atEnd m)
    (hfin := fun c s' => by
      unfold final StableHlo.held atEnd
      iintro ⟨⟨Hh, Hv⟩, HSI⟩
      icombine HSI Hv gives %hv
      ihave Hr := (pointsTo_read_all ucs (fun b => ((c : Thread nD τ).1, b)) (after (V1 m) c) s') $$ [Hh HSI]
      · isplitl [Hh] <;> iassumption
      icases Hr with ⟨%h, HSI⟩
      imodintro
      isplitr
      · ipureintro
        exact ⟨h, by simpa using hv⟩
      · iexact HSI)
    (hQ := fun s h hs => ⟨fun c =>
        have hr (b : Ref sig .tc) (hb : Proc.devRef .tc b ∈ ucs) : s.mem ((c : Thread nD τ).loc b) = after (V1 m) c b := (h c).1 _ hb
        ⟨(hr main_v20 (Finset.mem_filter.mpr ⟨StableHlo.devRef_mem_tcRefs main_v20, by decide⟩)).trans (after_res (V1 m) c),
          (hr main_arg0 (Finset.mem_filter.mpr ⟨StableHlo.devRef_mem_tcRefs main_arg0, by decide⟩)).trans
            ((after_ne (V1 m) c _ (by decide)).trans (V1_of m c main_arg0 (by decide))),
          (hr main_arg1 (Finset.mem_filter.mpr ⟨StableHlo.devRef_mem_tcRefs main_arg1, by decide⟩)).trans
            ((after_ne (V1 m) c _ (by decide)).trans (V1_of m c main_arg1 (by decide)))⟩,
      sem_eq_zero hs fun c sm hsm => by
        obtain rfl := unscoped_bar sm hsm
        exact (h c).2⟩)

end Run

end Cert.KernelIdeal.Pieces

end
-- ==== Proof.Value.lean ====
/- What the result holds, over the extended reals: every device ends with the table's rows at the ids,
   the value of the reference. The chunk of the ids and the gathered rows are read from the host's
   operations; of the two y partners the one that owns a row keeps it, and the other adds it to zero. -/
module

public import proofs.«01_k».proof.Defs
public import proofs.«01_k».proof.Proof.Contents
public import proofs.«01_k».proof.Proof.Region
public import proofs.«01_k».proof.Proof.Gen.ReferenceIdeal
public import proofs.«01_k».proof.Proof.Gen.Pre_ids_in_range_KernelIdeal
public import Idealize.ShloMosaic.Lib.Routing.Ops
public import Idealize.ShloMosaic.Lib.ReduceAll
public import Idealize.ShloMosaic.Lib.IdealHost
public import Idealize.ShloMosaic.Lib.Layout
public import Idealize.ShloMosaic.Lib.Pointwise.ShapeOpsCore
public import Idealize.ShloMosaic.Lib.StableHlo.Run

@[expose] public section

noncomputable section

namespace Cert.KernelIdeal.Pieces

open Idealize.ShloMosaic Idealize.ShloMosaic.TcCoe Idealize.SL Idealize.SL.Sem
open Cert.KernelIdeal.Gen

variable {F : FTy → Type} [FloatOps F]

/-! ## The host's operations before the kernel -/

/-- The word at which a device's half of the ids begins. -/
def startOf (c : Dev nD) : IVec S_ 32 :=
  let h : IVec S_ 32 := muli (Host.remui (Host.divui (constantI S_ 32 (Dev.word c)) (constantI S_ 32 8#32))
    (constantI S_ 32 2#32)) (constantI S_ 32 256#32)
  select (cmpi .slt h (constantI S_ 32 0#32)) (addi h (constantI S_ 32 512#32)) h

theorem startOf_eq (c : Dev nD) : (startOf c (Shape.Idx.first h_S_)).toInt = ((256 * (c.val / 8) : Nat) : Int) := by
  show (Scalar.select (IntOp.cmpi .slt _ _) _ _ : BitVec 32).toInt = _
  revert c
  decide +kernel

variable (m : (ℓ : Loc nD τ sig) → Buf (Elt F) ℓ) (c : Dev nD)

/-- A device's half of the ids. -/
def chunk : IVec S256 32 :=
  Host.dynamicSlice S256 (m ((c : Thread nD τ).loc main_arg0)) (fun _ => (startOf c (Shape.Idx.first h_S_)).toInt)
    sliceFits_S512_S256

/-- The rows it looks up in its own part of the table. -/
def rowAt : IVec S256 32 :=
  let a : IVec S256 32 := andi (chunk m c) (broadcastInDim S256 ![] bcast_S_S256 (constantI S_ 32 4095#32))
  select (cmpi .slt a (broadcastInDim S256 ![] bcast_S_S256 (constantI S_ 32 0#32)))
    (addi a (broadcastInDim S256 ![] bcast_S_S256 (constantI S_ 32 4096#32))) a

/-- The word read by the slice is the start, whatever the buffers hold. -/
theorem start_read (W : Valuation τ sig (Elt F)) :
    StableHlo.after ((hostOps0 c).take 13) W (Proc.devRef .tc main_v8) = startOf c := by
  simp only [List.take]
  after_results
  rfl

/-- No operation before the slice writes an argument. -/
theorem arg_read (n : Nat) (r : Ref sig .tc) (h : r ∉ hostOps0_W) (W : Valuation τ sig (Elt F)) :
    StableHlo.after ((hostOps0 c).take n) W (Proc.devRef .tc r) = W (Proc.devRef .tc r) :=
  StableHlo.after_of_writes_sub _ _ (List.forall_iff_forall_mem.mpr fun op hop =>
    List.forall_iff_forall_mem.mp (hostOps0_writes c) op (List.mem_of_mem_take hop)) h

theorem chunk_read : StableHlo.after ((hostOps0 c).take 14) (V0 m c) (Proc.devRef .tc main_v9) = chunk m c := by
  show (StableHlo.unaryIndexed main_arg0 ![main_v8] ⟨S_, .i32⟩ main_v9
    ((fun x w => Host.dynamicSlice S256 x (fun k => (w k (Shape.Idx.first h_S_)).toInt) sliceFits_S512_S256) :
      (⟨S512, .i32⟩ : BufTy).Contents (Elt F) → (Fin 1 → (⟨S_, .i32⟩ : BufTy).Contents (Elt F)) → (⟨S256, .i32⟩ : BufTy).Contents (Elt F))).result
      (StableHlo.after ((hostOps0 c).take 13) (V0 m c)) (Proc.devRef .tc main_v9) = _
  refine (StableHlo.unaryIndexed_result _ _ _ _ _ _ _ _ _ (StableHlo.after ((hostOps0 c).take 13) (V0 m c))).trans ?_
  unfold chunk
  have h0 := arg_read c 13 main_arg0 (by decide) (V0 m c)
  have h8 := start_read c (V0 m c)
  refine congrArg₂ (fun (x : S512.Idx → BitVec 32) (s : Fin 1 → Int) => Host.dynamicSlice S256 x s sliceFits_S512_S256) h0 ?_
  funext k
  match k with
  | ⟨0, _⟩ => exact congrArg (fun w : IVec S_ 32 => (w (Shape.Idx.first h_S_)).toInt) h8

theorem V1_rows : V1 m c main_v18
    = Host.gather gather_S4096x512_S256x1_S256x512_1_0_n_n_0_1_1512 (m ((c : Thread nD τ).loc main_arg1))
        (broadcastInDim S256x1 ![0] bcast_S256_S256x1_0 (rowAt m c)) := by
  show StableHlo.after ((hostOps0 c).drop 14) (StableHlo.after ((hostOps0 c).take 14) (V0 m c)) (Proc.devRef .tc main_v18) = _
  have h9 := chunk_read m c
  have h1 := arg_read c 14 main_arg1 (by decide) (V0 m c)
  generalize StableHlo.after ((hostOps0 c).take 14) (V0 m c) = W at h9 h1 ⊢
  simp only [List.drop]
  after_results
  rw [h9, h1]
  rfl

theorem V1_ids : V1 m c main_v19 = shapeCast S256x1 (chunk m c) shapeCasts_S256_S256x1 := by
  show StableHlo.after ((hostOps0 c).drop 14) (StableHlo.after ((hostOps0 c).take 14) (V0 m c)) (Proc.devRef .tc main_v19) = _
  have h9 := chunk_read m c
  generalize StableHlo.after ((hostOps0 c).take 14) (V0 m c) = W at h9 ⊢
  simp only [List.drop]
  after_results
  rw [h9]
  rfl

/-! ## Words of the ids -/

theorem word_row : ∀ n : Fin 8192,
    IntOp.andi (BitVec.ofNat 32 n.val) 4095#32 = BitVec.ofNat 32 (n.val % 4096) := by decide +kernel

theorem word_part : ∀ n : Fin 8192,
    IntOp.shrsi .vector (BitVec.ofNat 32 n.val) 12#32 = BitVec.ofNat 32 (n.val / 4096) := by decide +kernel

theorem row_pos : ∀ n : Fin 4096, IntOp.cmpi .slt (BitVec.ofNat 32 n.val) 0#32 = 0#1 := by decide +kernel
theorem id_pos : ∀ n : Fin 8192, IntOp.cmpi .slt (BitVec.ofNat 32 n.val) 0#32 = 0#1 := by decide +kernel

theorem yw_eq (c : Dev nD) : yw c = BitVec.ofNat 32 (c.val / 4 % 2) := by revert c; decide +kernel

/-! ## The host's operations at an index -/

theorem chunk_at (p : Fin 256) (q : Fin 512) (hq : q.val = 256 * (c.val / 8) + p.val) :
    chunk m c (ValueIdx.ix1 p) = m ((c : Thread nD τ).loc main_arg0) (ValueIdx.ix1 q) := by
  unfold chunk
  rw [Host.dynamicSlice_apply]
  refine congrArg (m ((c : Thread nD τ).loc main_arg0)) (funext fun a => Fin.ext ?_)
  have hd := half_lt c
  match a with
  | ⟨0, _⟩ =>
    refine Eq.trans ?_ hq.symm
    show Host.clampedStart S512 S256 sliceFits_S512_S256.1 _ 0 + p.val = _
    rw [Host.clampedStart_of_le _ _ 0 (256 * (c.val / 8)) (startOf_eq c) (by show _ + 256 ≤ 512; omega)]

theorem rowAt_at (p : Fin 256) (n : Fin 8192) (h : chunk m c (ValueIdx.ix1 p) = BitVec.ofNat 32 n.val) :
    rowAt m c (ValueIdx.ix1 p) = BitVec.ofNat 32 (n.val % 4096) := by
  have ha : IntOp.andi (chunk m c (ValueIdx.ix1 p)) 4095#32 = BitVec.ofNat 32 (n.val % 4096) := by rw [h, word_row]
  show Scalar.select (IntOp.cmpi .slt (IntOp.andi (chunk m c (ValueIdx.ix1 p)) 4095#32) 0#32) _ (IntOp.andi (chunk m c (ValueIdx.ix1 p)) 4095#32) = _
  rw [ha, row_pos ⟨n.val % 4096, Nat.mod_lt _ (by decide)⟩]
  rfl

theorem rows_at (p : Fin 256) (j : Fin 512) (n : Fin 8192) (h : chunk m c (ValueIdx.ix1 p) = BitVec.ofNat 32 n.val) :
    rowsOf (V1 m) c (ValueIdx.ix2 p j)
      = m ((c : Thread nD τ).loc main_arg1) (ValueIdx.ix2 (⟨n.val % 4096, Nat.mod_lt _ (by decide)⟩ : Fin 4096) j) := by
  unfold rowsOf
  rw [V1_rows]
  refine Routing.gather_row gather_S4096x512_S256x1_S256x512_1_0_n_n_0_1_1512 rfl rfl rfl rfl rfl _ _ p j
    ⟨n.val % 4096, Nat.mod_lt _ (by decide)⟩ ?_ (by decide)
  refine Eq.trans ?_ (rowAt_at m c p n h)
  refine congrArg (rowAt m c) (funext fun a => ?_)
  match a with
  | ⟨0, _⟩ => rfl

theorem ids_at (p : Fin 256) : idsOf (V1 m) c (ValueIdx.ix2 p (0 : Fin 1)) = chunk m c (ValueIdx.ix1 p) := by
  unfold idsOf
  rw [V1_ids]
  refine shapeCast_apply _ _ _ _ ?_
  rw [Shape.rowMajor_val_two, Shape.rowMajor_val_one]
  show p.val = p.val * 1 + 0
  omega

/-! ## The kernel's masks over the extended reals -/

theorem part_same : ∀ a b : Fin 2, (BitVec.setWidth 32 (IntOp.cmpi .eq (BitVec.ofNat 32 a.val) (BitVec.ofNat 32 b.val))).toInt
    = if a.val = b.val then 1 else 0 := by decide +kernel

/-- The mask of a device at a row: one where the id lies in its part of the table, zero elsewhere. -/
theorem mask_at (d : Dev nD) (ids : Vec Ideal S256x1 .i32) (p : Fin 256) (n : Fin 8192)
    (h : ids (ValueIdx.ix2 p (0 : Fin 1)) = BitVec.ofNat 32 n.val) :
    k0_pay11 (F := Ideal) (yw d) ids (ValueIdx.ix2 p (0 : Fin 1)) = if n.val / 4096 = d.val / 4 % 2 then (1 : EReal) else 0 := by
  have hn := n.isLt
  have hs : shapeCast S256x1 ids shapeCasts_S256x1_S256x1 = ids := shapeCast_id _ _
  unfold k0_pay11
  rw [hs]
  show (((BitVec.setWidth 32 (IntOp.cmpi .eq (IntOp.shrsi .vector (ids (ValueIdx.ix2 p (0 : Fin 1))) 12#32) (yw d))).toInt : ℝ) : EReal) = _
  rw [h, word_part, yw_eq, part_same ⟨n.val / 4096, by omega⟩ ⟨d.val / 4 % 2, by omega⟩]
  split <;> simp

/-- A column broadcast along the rows, at an index. -/
theorem bcast_at (q : Vec Ideal S256x1 .f32) (p : Fin 256) (j : Fin 512) :
    broadcastTo S256x512 q broadcasts_S256x1_S256x512 (ValueIdx.ix2 p j) = q (ValueIdx.ix2 p (0 : Fin 1)) := by
  unfold broadcastTo
  refine congrArg q (funext fun a => Fin.ext ?_)
  match a with
  | ⟨0, _⟩ => rfl
  | ⟨1, _⟩ => rfl

section Sums

variable (rows : Dev nD → Vec Ideal S256x512 .f32) (ids : Dev nD → Vec Ideal S256x1 .i32)

/-- The sum is the row of the owner: the own one where owned, else the partner's. -/
theorem sv_at (d : Dev nD) (p : Fin 256) (j : Fin 512) (n : Fin 8192)
    (h : ids d (ValueIdx.ix2 p (0 : Fin 1)) = BitVec.ofNat 32 n.val) :
    sv rows ids d (ValueIdx.ix2 p j)
      = if n.val / 4096 = d.val / 4 % 2 then rows d (ValueIdx.ix2 p j) else rows (yp d) (ValueIdx.ix2 p j) := by
  have hp : pmv rows ids d (ValueIdx.ix2 p j)
      = (rows d (ValueIdx.ix2 p j) : EReal) * k0_pay11 (F := Ideal) (yw d) (ids d) (ValueIdx.ix2 p (0 : Fin 1)) := by
    have hs : pmv rows ids d = mulf (rows d) (broadcastTo S256x512 (k0_pay11 (yw d) (ids d)) broadcasts_S256x1_S256x512) :=
      shapeCast_id (mulf (F := Ideal) (rows d) (broadcastTo S256x512 (k0_pay11 (F := Ideal) (yw d) (ids d)) broadcasts_S256x1_S256x512))
        shapeCasts_S256x512_S256x512
    rw [hs, ← bcast_at (k0_pay11 (yw d) (ids d)) p j]
    rfl
  have hq : qv ids d (ValueIdx.ix2 p (0 : Fin 1))
      = (1 : EReal) - k0_pay11 (F := Ideal) (yw d) (ids d) (ValueIdx.ix2 p (0 : Fin 1)) := by
    have hs : qv ids d = subf (broadcast S256x1 (Scalar.ofBits .f32 0x3F800000#32)) (k0_pay11 (yw d) (ids d)) :=
      shapeCast_id (subf (broadcast S256x1 (Scalar.ofBits .f32 0x3F800000#32)) (k0_pay11 (yw d) (ids d))) _
    rw [hs, ← Ideal.ofBits_one_f32]
    rfl
  have hsum : sv rows ids d (ValueIdx.ix2 p j)
      = (pmv rows ids d (ValueIdx.ix2 p j) : EReal)
        + (rows (yp d) (ValueIdx.ix2 p j) : EReal) * broadcastTo S256x512 (qv ids d) broadcasts_S256x1_S256x512 (ValueIdx.ix2 p j) := rfl
  rw [hsum, bcast_at, hp, hq, mask_at d (ids d) p n h]
  split
  · have h1 : (1 : EReal) - 1 = 0 := by rw [← EReal.coe_one, ← EReal.coe_sub, sub_self, EReal.coe_zero]
    rw [h1, mul_one, mul_zero, add_zero]
  · rw [sub_zero, mul_one, mul_zero, zero_add]

end Sums

/-! ## The result -/

theorem yp_half (d : Dev nD) : (yp d).val / 8 = d.val / 8 := by revert d; decide +kernel
theorem yp_part (d : Dev nD) : (yp d).val / 4 % 2 = 1 - d.val / 4 % 2 := by revert d; decide +kernel

/-- The part of the table on a device. -/
abbrev part (d : Dev nD) (T : (⟨2, ![8192, 512]⟩ : Shape).Idx → EReal) : (⟨2, ![4096, 512]⟩ : Shape).Idx → EReal :=
  Layout.blockN ⟨2, ![4096, 512]⟩ ⟨2, ![8192, 512]⟩ (Layout.meshBlock [2, 2, 4] ![[1], []] d) T

theorem part_block (d : Dev nD) : Layout.meshLin [2, 2, 4] d.val [1] = d.val / 4 % 2
    ∧ Layout.meshLin [2, 2, 4] d.val [] = 0 := by
  revert d; decide +kernel

theorem part_at (d : Dev nD) (T : (⟨2, ![8192, 512]⟩ : Shape).Idx → EReal) (n : Fin 8192) (j : Fin 512)
    (h : n.val / 4096 = d.val / 4 % 2) :
    part d T (ValueIdx.ix2 (⟨n.val % 4096, Nat.mod_lt _ (by decide)⟩ : Fin 4096) j) = T (ValueIdx.ix2 n j) := by
  show T _ = T _
  refine congrArg T (funext fun a => Fin.ext ?_)
  rw [Layout.TilesN.idx_val]
  match a with
  | ⟨0, _⟩ =>
    show Layout.meshLin [2, 2, 4] d.val [1] * 4096 + n.val % 4096 = n.val
    rw [(part_block d).1]; omega
  | ⟨1, _⟩ =>
    show Layout.meshLin [2, 2, 4] d.val [] * 512 + j.val = j.val
    rw [(part_block d).2]; omega

section Result

variable (m : (ℓ : Loc nD τ sig) → Buf (Elt Ideal) ℓ) (I : IVec S512 32) (T : (⟨2, ![8192, 512]⟩ : Shape).Idx → EReal)
variable (hI : ∀ d : Dev nD, m ((d : Thread nD τ).loc main_arg0) = I)
variable (hT : ∀ d : Dev nD, m ((d : Thread nD τ).loc main_arg1) = part d T)
variable (hr : ∀ q : Fin 512, (I (ValueIdx.ix1 q)).toNat < 8192)
include hI hT

/-- Each half, once summed over the two parts, holds the table's rows at its ids. -/
theorem half_at (d : Dev nD) (p : Fin 256) (j q : Fin 512) (hq : q.val = 256 * (d.val / 8) + p.val) :
    sv (rowsOf (V1 m)) (idsOf (V1 m)) d (ValueIdx.ix2 p j) = T (ValueIdx.ix2 ⟨(I (ValueIdx.ix1 q)).toNat, hr q⟩ j) := by
  have hn := hr q
  have hw : I (ValueIdx.ix1 q) = BitVec.ofNat 32 (I (ValueIdx.ix1 q)).toNat := ((BitVec.ofNat_toNat _ _).trans (BitVec.setWidth_eq _)).symm
  generalize hx : (⟨(I (ValueIdx.ix1 q)).toNat, hr q⟩ : Fin 8192) = n
  have hv : (I (ValueIdx.ix1 q)).toNat = n.val := congrArg Fin.val hx
  rw [hv] at hw
  have hc : chunk m d (ValueIdx.ix1 p) = BitVec.ofNat 32 n.val := by rw [chunk_at m d p q hq, hI, hw]
  have hc' : chunk m (yp d) (ValueIdx.ix1 p) = BitVec.ofNat 32 n.val := by
    rw [chunk_at m (yp d) p q (by rw [yp_half, hq]), hI, hw]
  have hn := n.isLt
  rw [sv_at _ _ d p j n ((ids_at m d p).trans hc)]
  split
  · rename_i h
    rw [rows_at m d p j n hc, hT, part_at d T n j h]
  · rename_i h
    rw [rows_at m (yp d) p j n hc', hT, part_at (yp d) T n j (by rw [yp_part]; omega)]

/-- Every device ends with the table's rows at all the ids. -/
theorem res_at (d : Dev nD) (q j : Fin 512) :
    resOf (V1 m) d (ValueIdx.ix2 q j) = T (ValueIdx.ix2 ⟨(I (ValueIdx.ix1 q)).toNat, hr q⟩ j) := by
  have hq := q.isLt
  have hd := half_lt d
  have hlo : lo (ValueIdx.ix2 q j) = ValueIdx.ix2 (⟨q.val % 256, Nat.mod_lt _ (by decide)⟩ : Fin 256) j := by
    funext a; apply Fin.ext
    match a with
    | ⟨0, _⟩ => rfl
    | ⟨1, _⟩ => rfl
  unfold resOf outv
  rw [hlo]
  by_cases h : q.val / 256 = d.val / 8
  · rw [if_pos (show ((ValueIdx.ix2 q j) 0).val / 256 = d.val / 8 from h)]
    exact half_at m I T hI hT hr d _ j q (by show q.val = 256 * (d.val / 8) + q.val % 256; omega)
  · rw [if_neg (show ¬ ((ValueIdx.ix2 q j) 0).val / 256 = d.val / 8 from h)]
    exact half_at m I T hI hT hr (xp d) _ j q (by show q.val = 256 * ((xp d).val / 8) + q.val % 256; rw [half_xp]; omega)

end Result

/-! ## The precondition and the reference -/

/-- The ids in range, as natural numbers. -/
theorem range_of (I : IVec S512 32) (E : FVec Ideal S4096x512 .f32)
    (h : Cert.Pre_ids_in_range_KernelIdeal.fn (F := Ideal) I E = fun _ => 1#1) (q : Fin 512) :
    (I (ValueIdx.ix1 q)).toNat < 8192 := by
  haveI : Subsingleton (Cert.Pre_ids_in_range_KernelIdeal.S_).Idx := ⟨fun a b => funext fun k => k.elim0⟩
  have hj := congrFun h (Shape.Idx.first Cert.Pre_ids_in_range_KernelIdeal.Facts.h_S_)
  have hx := Host.reduce_andi_all _ _ _ _ _ hj (ValueIdx.ix1 q)
  obtain ⟨h0, h1⟩ := IntOp.andi_eq_one.1 hx
  have h0 : IntOp.cmpi .sge (I (ValueIdx.ix1 q)) 0#32 = 1#1 := h0
  have h1 : IntOp.cmpi .slt (I (ValueIdx.ix1 q)) 8192#32 = 1#1 := h1
  have ofBool_one : ∀ b : Bool, BitVec.ofBool b = 1#1 → b = true := by decide
  have l0 : (0#32).toInt ≤ (I (ValueIdx.ix1 q)).toInt := of_decide_eq_true (ofBool_one _ h0)
  have l1 : (I (ValueIdx.ix1 q)).toInt < (8192#32).toInt := of_decide_eq_true (ofBool_one _ h1)
  have e0 : (0#32).toInt = 0 := by decide
  have e1 : (8192#32).toInt = 8192 := by decide
  have hb := (I (ValueIdx.ix1 q)).isLt
  rw [e0] at l0
  rw [e1] at l1
  rw [BitVec.toInt_eq_toNat_cond] at l0 l1
  split at l0 <;> omega

/-- The reference at an index: the table's row at the id. -/
theorem ref_at (I : IVec S512 32) (T : (⟨2, ![8192, 512]⟩ : Shape).Idx → EReal)
    (hr : ∀ q : Fin 512, (I (ValueIdx.ix1 q)).toNat < 8192) (w : IVec (⟨2, ![512, 1]⟩ : Shape) 32)
    (hw : ∀ q : Fin 512, w (ValueIdx.ix2 q (0 : Fin 1)) = I (ValueIdx.ix1 q)) (q j : Fin 512) :
    Host.gather Cert.ReferenceIdeal.gather_S8192x512_S512x1_S512x512_1_0_n_n_0_1_1512 T w (ValueIdx.ix2 q j)
      = T (ValueIdx.ix2 ⟨(I (ValueIdx.ix1 q)).toNat, hr q⟩ j) := by
  refine Routing.gather_row Cert.ReferenceIdeal.gather_S8192x512_S512x1_S512x512_1_0_n_n_0_1_1512 rfl rfl rfl rfl rfl _ _ q j
    ⟨(I (ValueIdx.ix1 q)).toNat, hr q⟩ ?_ (by decide)
  rw [hw]
  exact ((BitVec.ofNat_toNat _ _).trans (BitVec.setWidth_eq _)).symm

end Cert.KernelIdeal.Pieces

end
-- ==== Proof.lean ====
/- The claim. The run of the whole program, proved once over any float values (Proof/Launch.lean), gives the
   frames of both programs; read over the extended reals (Proof/Value.lean) it gives the value: every device
   ends with the table's row at each id, which is what the reference computes. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Launch
public import proofs.«01_k».proof.Proof.Value
public import proofs.«01_k».proof.Proof.Gen.ReferenceIdeal
public import proofs.«01_k».proof.Proof.Gen.ReferenceIdeal.Run
public import proofs.«01_k».proof.Proof.Gen.Pre_ids_in_range_KernelIdeal
public import proofs.«01_k».proof.Proof.Gen.Pre_ids_in_range_ReferenceIdeal
public import Idealize.ShloMosaic.Adequacy
public import Idealize.ShloMosaic.Init

@[expose] public section

noncomputable section

namespace Cert.Proof

open Idealize.ShloMosaic Idealize.SL.Sem Cert.Kernel

/-! ## The frames -/

/-- The frame for any float values. -/
theorem frame_any {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
        ∧ r.2.sem = fun _ => 0) :=
  (θ_run Cert.KernelIdeal.defs _ _).mono (fun _ h => ⟨fun c => ⟨(h.1 c).2.1, (h.1 c).2.2⟩, h.2⟩)
    (Cert.KernelIdeal.Pieces.run_main m ρ)

/-- The kernel's bodies at the machine's floats are those the run is proved of: the two texts are the same. -/
theorem bodies_eq : Cert.Kernel.defs₀ (F := Bits) = Cert.KernelIdeal.defs₀ (F := Bits) := by
  unfold Cert.Kernel.defs₀ Cert.KernelIdeal.defs₀
  refine congrArg (Defs.onTc (nD := 16) (τ := Topo.v7x) (sig := Cert.KernelIdeal.sig) (Val := Elt Bits) (Λ := Cert.KernelIdeal.Λ₀)) ?_
  funext l x
  match l with
  | 0 => obtain ⟨t, s⟩ := x; rfl

theorem table_eq : Cert.Kernel.defs (F := Bits) = Cert.KernelIdeal.defs (F := Bits) := by
  unfold Cert.Kernel.defs Cert.KernelIdeal.defs
  rw [bodies_eq]
  rfl

theorem frame_kernel : Cert.quiescent_Kernel := by
  intro m ρ _
  rw [table_eq]
  exact frame_any (F := Bits) m ρ

theorem frame_ideal : Cert.quiescent_KernelIdeal := fun m ρ _ => frame_any (F := Ideal) m ρ

theorem frame_ideal_pre : Cert.quiescent_KernelIdeal_pre_ids_in_range_KernelIdeal := fun m ρ _ =>
  frame_ideal m ρ trivial

theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem frame_reference_pre : Cert.quiescent_ReferenceIdeal_pre_ids_in_range_ReferenceIdeal := fun m ρ _ =>
  frame_reference m ρ trivial

/-! ## The value -/

open Cert.KernelIdeal.Pieces (res_at range_of ref_at id_pos run_main)

/-- The ids of the reference, its negative ones wrapped: there is none in range. -/
theorem ref_ids (I : IVec Cert.ReferenceIdeal.S512 32) (hr : ∀ q : Fin 512, (I (ValueIdx.ix1 q)).toNat < 8192) (a : IVec Cert.ReferenceIdeal.S512 32) (q : Fin 512) :
    broadcastInDim Cert.ReferenceIdeal.S512x1 ![0] Cert.ReferenceIdeal.Facts₀.bcast_S512_S512x1_0
      (select (cmpi .slt I (broadcastInDim Cert.ReferenceIdeal.S512 ![] Cert.ReferenceIdeal.Facts₀.bcast_S_S512
        (constantI Cert.ReferenceIdeal.S_ 32 0#32))) a I) (ValueIdx.ix2 q (0 : Fin 1)) = I (ValueIdx.ix1 q) := by
  have hi : I (ValueIdx.ix1 q) = BitVec.ofNat 32 (I (ValueIdx.ix1 q)).toNat :=
    ((BitVec.ofNat_toNat _ _).trans (BitVec.setWidth_eq _)).symm
  have hp : IntOp.cmpi .slt (I (ValueIdx.ix1 q)) 0#32 = 0#1 := by
    rw [hi]; exact id_pos ⟨_, hr q⟩
  refine Eq.trans (b := Scalar.select (IntOp.cmpi .slt (I (ValueIdx.ix1 q)) 0#32) (a (ValueIdx.ix1 q)) (I (ValueIdx.ix1 q))) ?_ ?_
  · refine congrArg (fun i : Cert.ReferenceIdeal.S512.Idx => Scalar.select (IntOp.cmpi .slt (I i) 0#32) (a i) (I i)) (funext fun k => ?_)
    match k with
    | ⟨0, _⟩ => rfl
  · rw [hp]; rfl

/-- `Cert.algebraic_…`: both end with the table's row at each id. -/
theorem value : Cert.algebraic_KernelIdeal_ReferenceIdeal_pre_ids_in_range_KernelIdeal := by
  intro m ρ m' ρ' hpre hag
  have hr := range_of _ _ (hpre 0)
  rw [(hag 0).1] at hr
  refine ⟨fun i => m' (((0 : Dev Cert.ReferenceIdeal.nD).tc : Thread Cert.ReferenceIdeal.nD Cert.ReferenceIdeal.τ).loc Cert.ReferenceIdeal.main_arg1)
    (ValueIdx.ix2 ⟨(m' (((0 : Dev Cert.ReferenceIdeal.nD).tc : Thread Cert.ReferenceIdeal.nD Cert.ReferenceIdeal.τ).loc Cert.ReferenceIdeal.main_arg0) (ValueIdx.ix1 (i 0))).toNat, hr (i 0)⟩ (i 1)), ?_, ?_⟩
  · refine (θ_run Cert.KernelIdeal.defs _ _).mono (fun _ h c => ⟨(h.1 c).1.trans (funext fun i => ?_), (h.1 c).2.1, (h.1 c).2.2⟩)
      (run_main (F := Ideal) m ρ)
    rw [ValueIdx.eq_ix2 i]
    exact res_at m _ _ (fun d => (hag d).1) (fun d => (hag d).2) hr c (i 0) (i 1)
  · refine (θ_run Cert.ReferenceIdeal.defs _ _).mono (fun _ h => ⟨(h 0).1.trans (funext fun i => ?_), (h 0).2.1, (h 0).2.2⟩)
      (Cert.ReferenceIdeal.Value.run (F := Ideal) m' ρ')
    rw [ValueIdx.eq_ix2 i]
    exact ref_at _ _ hr _ (ref_ids _ hr _) (i 0) (i 1)

theorem claim : Cert.Claim := ⟨Cert.Kernel.Gen.facts, Cert.KernelIdeal.Gen.facts, Cert.ReferenceIdeal.Gen.facts, Cert.Pre_ids_in_range_KernelIdeal.Gen.facts, Cert.Pre_ids_in_range_ReferenceIdeal.Gen.facts,
  frame_kernel, frame_ideal, frame_ideal_pre, frame_reference, frame_reference_pre, trivial, value⟩

end Cert.Proof

end
